-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S32x128x50 : Shape := ⟨3, ![32, 128, 50]⟩
abbrev S32x50x128 : Shape := ⟨3, ![32, 50, 128]⟩
abbrev S50x4096x128 : Shape := ⟨3, ![50, 4096, 128]⟩
abbrev S50x128 : Shape := ⟨2, ![50, 128]⟩
abbrev S10x64x128 : Shape := ⟨3, ![10, 64, 128]⟩
abbrev S_ : Shape := ⟨0, ![]⟩
abbrev S1x50x128 : Shape := ⟨3, ![1, 50, 128]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S4096x50x128 : Shape := ⟨3, ![4096, 50, 128]⟩

abbrev nBuf : Table → Nat
  | .hbm => 6
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S32x128x50, .i32⟩
  | .hbm, ⟨3, _⟩ => ⟨S32x50x128, .i32⟩
  | .hbm, ⟨4, _⟩ => ⟨S50x4096x128, .f32⟩
  | .hbm, ⟨5, _⟩ => ⟨S4096x50x128, .f32⟩
  | .local .scVector .vmem, ⟨0, _⟩ => ⟨S50x128, .i32⟩
  | .local .scVector .vmem, ⟨1, _⟩ => ⟨S10x64x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_300_r0 : BitVec 32 := 0#32
  let c0_i32_301_r0 : BitVec 32 := 0#32
  ![v1.toNat, 0, 0]
@[reducible] def k0_t1_loop : Scf.Loop 32 :=
  let c0_i32_61 : BitVec 32 := 0#32
  let c9_i32_62 : BitVec 32 := 9#32
  let v53 : BitVec 32 := Scalar.addi c0_i32_61 c9_i32_62
  let c1_i32_63 : BitVec 32 := 1#32
  ⟨c0_i32_61, v53, c1_i32_63⟩
def k0_off2 (i : grid0.Coords) (k0_t1 : Fin k0_t1_loop.trips) (c0_i32_308 : BitVec 32) (c0_i32_309 : BitVec 32) : Fin 3 → Nat :=
  let c0_i32_61 : BitVec 32 := 0#32
  let c1_i32_63 : BitVec 32 := 1#32
  let arg27 : BitVec 32 := Scf.iv c0_i32_61 c1_i32_63 k0_t1
  let c5_i32_300 : BitVec 32 := 5#32
  let v274 : BitVec 32 := Scalar.muli arg27 c5_i32_300
  let v280 : BitVec 32 := Scalar.addi v274 c0_i32_308
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v281 : BitVec 32 := Scalar.addi v2 c0_i32_309
  let c0_i32_313 : BitVec 32 := 0#32
  ![v280.toNat, v281.toNat, 0]
def k0_off3 (i : grid0.Coords) : Fin 3 → Nat :=
  let c0_i32_462 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_465 : BitVec 32 := 0#32
  ![0, v2.toNat, 0]
def k0_off4 (k0_t1 : Fin k0_t1_loop.trips) (c0_i32_470 : BitVec 32) : Fin 2 → Nat :=
  let c0_i32_61 : BitVec 32 := 0#32
  let c1_i32_63 : BitVec 32 := 1#32
  let arg27 : BitVec 32 := Scf.iv c0_i32_61 c1_i32_63 k0_t1
  let c5_i32_300 : BitVec 32 := 5#32
  let v274 : BitVec 32 := Scalar.muli arg27 c5_i32_300
  let c5_i32_469 : BitVec 32 := 5#32
  let v433 : BitVec 32 := Scalar.addi v274 c5_i32_469
  let v434 : BitVec 32 := Scalar.addi v433 c0_i32_470
  let c0_i32_474 : BitVec 32 := 0#32
  ![v434.toNat, 0]
def k0_off5 (k0_t1 : Fin k0_t1_loop.trips) (c0_i32_486 : BitVec 32) : Fin 2 → Nat :=
  let c0_i32_61 : BitVec 32 := 0#32
  let c1_i32_63 : BitVec 32 := 1#32
  let arg27 : BitVec 32 := Scf.iv c0_i32_61 c1_i32_63 k0_t1
  let c5_i32_300 : BitVec 32 := 5#32
  let v274 : BitVec 32 := Scalar.muli arg27 c5_i32_300
  let c5_i32_485 : BitVec 32 := 5#32
  let v448 : BitVec 32 := Scalar.addi v274 c5_i32_485
  let v449 : BitVec 32 := Scalar.addi v448 c0_i32_486
  let c64_i32_490 : BitVec 32 := 64#32
  ![v449.toNat, 64]
def k0_off6 (i : grid0.Coords) (c0_i32_72 : BitVec 32) : Fin 3 → Nat :=
  let c45_i32 : BitVec 32 := 45#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v59 : BitVec 32 := Scalar.addi v2 c0_i32_72
  let c0_i32_76 : BitVec 32 := 0#32
  ![45, v59.toNat, 0]
def k0_off7 (i : grid0.Coords) (c0_i32_103 : BitVec 32) : Fin 3 → Nat :=
  let c46_i32 : BitVec 32 := 46#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v87 : BitVec 32 := Scalar.addi v2 c0_i32_103
  let c0_i32_107 : BitVec 32 := 0#32
  ![46, v87.toNat, 0]
def k0_off8 (i : grid0.Coords) (c0_i32_134 : BitVec 32) : Fin 3 → Nat :=
  let c47_i32 : BitVec 32 := 47#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v115 : BitVec 32 := Scalar.addi v2 c0_i32_134
  let c0_i32_138 : BitVec 32 := 0#32
  ![47, v115.toNat, 0]
def k0_off9 (i : grid0.Coords) (c0_i32_165 : BitVec 32) : Fin 3 → Nat :=
  let c48_i32 : BitVec 32 := 48#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v143 : BitVec 32 := Scalar.addi v2 c0_i32_165
  let c0_i32_169 : BitVec 32 := 0#32
  ![48, v143.toNat, 0]
def k0_off10 (i : grid0.Coords) (c0_i32_196 : BitVec 32) : Fin 3 → Nat :=
  let c49_i32 : BitVec 32 := 49#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v171 : BitVec 32 := Scalar.addi v2 c0_i32_196
  let c0_i32_200 : BitVec 32 := 0#32
  ![49, v171.toNat, 0]
def k0_off11 (i : grid0.Coords) : Fin 3 → Nat :=
  let c0_i32_221 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_224 : BitVec 32 := 0#32
  ![0, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Canon.lean ====
/-
  The kernel's tile program in a form that names a chunk by its number. The printed program spells every one of its
  transfers separately, ten row buffers at a time; here one definition per kind of transfer takes the row buffer's
  number `b : Fin 10`, and the program is a sequence of passes over the ten buffers. `body_eq` says the printed program
  is that one.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Emb

open Cert.KernelIdeal Cert.KernelIdeal.Gen

open Idealize.ShloMosaic Idealize.SL.Sem

variable {F : FTy → Type} [FloatOps F]

/-- The identifiers in HBM, the table, the output, and a tile's two scratch buffers, each whole. -/
abbrev iV : Memref sig .scVector .hbm S32x50x128 .i32 := Memref.whole main_v1_scv
/-- The table. -/
abbrev xV : Memref sig .scVector .hbm S100000x128 .f32 := Memref.whole main_arg1_scv
/-- The output. -/
abbrev oV : Memref sig .scVector .hbm S50x4096x128 .f32 := Memref.whole main_v2_scv
/-- A tile's buffer for its identifiers. -/
abbrev sV : Memref sig .scVector .vmem S50x128 .i32 := Memref.whole cc0_scratch0
/-- A tile's ten row buffers. -/
abbrev rV : Memref sig .scVector .vmem S10x64x128 .f32 := Memref.whole cc0_scratch1

/-- The SparseCore and the vector subcore at grid coordinates `L`. -/
abbrev cV (L : grid0.Coords) : Fin τ.nSC := (L 0).castLE hcore0
/-- The subcore of a tile. -/
abbrev jV (L : grid0.Coords) : Fin τ.nSub := (L 1).castLE hsub0

/-- A tile's programs. -/
abbrev Pg (F : FTy → Type) (L : grid0.Coords) : Type 1 := Prog (TpuEff nD τ sig (Elt F) Λ₀ (.scVector (cV L) (jV L))) PUnit

/-- Each row buffer lies within the scratch array. -/
theorem rowK_inb (b : Fin 10) : ∀ a, (![b.val, 0, 0] : Fin 3 → Nat) a + S1x64x128.size a ≤ S10x64x128.size a := by
  revert b; decide
/-- Each gather semaphore is one of the program's. -/
theorem gsem_le (b : Fin 10) : b.val + S_.numel ≤ 21 := by revert b; decide
/-- Each store semaphore is one of the program's. -/
theorem ssem_le (b : Fin 10) : b.val + 10 + S_.numel ≤ 21 := by revert b; decide

/-- Row buffer `b`: 64 rows of 128 floats. -/
abbrev rowK (b : Fin 10) : Memref sig .scVector .vmem S64x128 .f32 :=
  ((rV).slice (Rect.unit (s := S10x64x128) ![b.val, 0, 0] S1x64x128.size (rowK_inb b)) (fun _ => rfl)).squeeze S64x128 squeezes_S1x64x128_S64x128
/-- The whole table, as a gather's source names it. -/
abbrev tabK : Memref sig .scVector .hbm S100000x128 .f32 :=
  (xV).slice (Rect.unit (s := S100000x128) ![0, 0] S100000x128.size inb_S100000x128_S100000x128_0_0) (fun _ => rfl)
/-- A list of 64 row numbers in the index scratch, at an offset. -/
abbrev lstK (off : Fin 2 → Nat) (h : ∀ a, off a + S1x64.size a ≤ S50x128.size a) : Memref sig .scVector .vmem S64 .i32 :=
  ((sV).slice (Rect.unit (s := S50x128) off S1x64.size h) (fun _ => rfl)).squeeze S64 squeezes_S1x64_S64
/-- A block of 64 rows of the output, at an offset. -/
abbrev outK (off : Fin 3 → Nat) (h : ∀ a, off a + S1x64x128.size a ≤ S50x4096x128.size a) : Memref sig .scVector .hbm S64x128 .f32 :=
  ((oV).slice (Rect.unit (s := S50x4096x128) off S1x64x128.size h) (fun _ => rfl)).squeeze S64x128 squeezes_S1x64x128_S64x128
/-- The tile's own row of the identifiers. -/
abbrev idsK (L : grid0.Coords) : Memref sig .scVector .hbm S50x128 .i32 :=
  ((iV).slice (Rect.unit (s := S32x50x128) (k0_off1 L) S1x50x128.size (k0_off1_inb L)) (fun _ => rfl)).squeeze S50x128 squeezes_S1x50x128_S50x128

/-- The semaphore of row buffer `b`'s gather, and that of its write-out. -/
abbrev gsem (b : Fin 10) : DmaSem sig := (SemArray.consecutive b.val S_ (gsem_le b) : DmaSems sig S_).sem
/-- Row buffer `b`'s store semaphore. -/
abbrev ssem (b : Fin 10) : DmaSem sig := (SemArray.consecutive (b.val + 10) S_ (ssem_le b) : DmaSems sig S_).sem

/-! ## One transfer, or one wait, of row buffer `b` -/

/-- Start the gather into row buffer `b` of the rows that the 64 identifiers at `off` name. -/
def opGather (L : grid0.Coords) (b : Fin 10) (off : Fin 2 → Nat) (h : ∀ a, off a + S1x64.size a ≤ S50x128.size a) : Pg F L :=
  SparseCore.enqueueIndirectGather rfl tabK (rowK b) gathers_S100000x128_S64x128 (lstK off h) rfl (gsem b) (View.wordExact_bits rfl) rfl (Or.inl rfl)
/-- Wait for row buffer `b`'s gather. -/
def opGathered (L : grid0.Coords) (b : Fin 10) : Pg F L :=
  SparseCore.waitIndirectGather (gsem b) tabK (rowK b) (View.wordExact_bits rfl) ((View.wordExact_bits rfl).reshape _ _)
/-- Start the store of row buffer `b` to the output's block at `off`. -/
def opStore (L : grid0.Coords) (b : Fin 10) (off : Fin 3 → Nat) (h : ∀ a, off a + S1x64x128.size a ≤ S50x4096x128.size a) : Pg F L :=
  Prog.lift (.enqueueDma (rowK b) (.here (outK off h)) (.dma (ssem b)) ((View.wordExact_bits rfl).reshape _ _) ((View.wordExact_bits rfl).reshape _ _) ⟨Or.inl rfl, trivial⟩)
/-- Wait for row buffer `b`'s store. -/
def opStored (L : grid0.Coords) (b : Fin 10) (off : Fin 3 → Nat) (h : ∀ a, off a + S1x64x128.size a ≤ S50x4096x128.size a) : Pg F L :=
  Prog.lift (.waitDma2 (ssem b) (rowK b) (outK off h) ((View.wordExact_bits rfl).reshape _ _) ((View.wordExact_bits rfl).reshape _ _))

/-! ## The offsets the passes use, by buffer -/

/-- Row `b / 2` of a group, half `b % 2` of it. -/
abbrev rowOf (b : Fin 10) : Fin 5 := ⟨b.val / 2, by omega⟩
/-- The half of a sentence block that row buffer `b` serves. -/
abbrev halfOf (b : Fin 10) : Fin 2 := ⟨b.val % 2, by omega⟩

/-- Where the first round's identifiers for row buffer `b` lie. -/
def lst0 (b : Fin 10) : Fin 2 → Nat := ![b.val / 2, 64 * (b.val % 2)]
/-- They lie within the tile's identifiers. -/
theorem lst0_inb (b : Fin 10) : ∀ a, lst0 b a + S1x64.size a ≤ S50x128.size a := by revert b; decide

/-- Where the identifiers lie that trip `t` starts row buffer `b`'s next gather with. -/
def lstT (t : Fin k0_t1_loop.trips) (b : Fin 10) : Fin 2 → Nat :=
  if b.val % 2 = 0 then k0_off4 t (BitVec.ofNat 32 (rowOf b).val) else k0_off5 t (BitVec.ofNat 32 (rowOf b).val)
/-- They lie within the tile's identifiers. -/
theorem lstT_inb (t : Fin k0_t1_loop.trips) (b : Fin 10) : ∀ a, lstT t b a + S1x64.size a ≤ S50x128.size a := by
  unfold lstT; split
  · exact k0_off4_inb t (rowOf b)
  · exact k0_off5_inb t (rowOf b)

/-- The output's block that trip `t` stores row buffer `b` to. -/
def outT (L : grid0.Coords) (t : Fin k0_t1_loop.trips) (b : Fin 10) : Fin 3 → Nat :=
  k0_off2 L t (BitVec.ofNat 32 (rowOf b).val) (BitVec.ofNat 32 (64 * (halfOf b).val))
/-- It lies within the output. -/
theorem outT_inb (L : grid0.Coords) (t : Fin k0_t1_loop.trips) (b : Fin 10) : ∀ a, outT L t b a + S1x64x128.size a ≤ S50x4096x128.size a :=
  k0_off2_inb L t (rowOf b) (halfOf b)

/-- The output's block that row buffer `b` is stored to after the loop. -/
def outE (L : grid0.Coords) (b : Fin 10) : Fin 3 → Nat :=
  match rowOf b with
  | 0 => k0_off6 L (BitVec.ofNat 32 (64 * (halfOf b).val))
  | 1 => k0_off7 L (BitVec.ofNat 32 (64 * (halfOf b).val))
  | 2 => k0_off8 L (BitVec.ofNat 32 (64 * (halfOf b).val))
  | 3 => k0_off9 L (BitVec.ofNat 32 (64 * (halfOf b).val))
  | 4 => k0_off10 L (BitVec.ofNat 32 (64 * (halfOf b).val))
/-- It lies within the output. -/
theorem outE_inb (L : grid0.Coords) (b : Fin 10) : ∀ a, outE L b a + S1x64x128.size a ≤ S50x4096x128.size a := by
  unfold outE; generalize rowOf b = r
  match r with
  | 0 => exact k0_off6_inb L (halfOf b)
  | 1 => exact k0_off7_inb L (halfOf b)
  | 2 => exact k0_off8_inb L (halfOf b)
  | 3 => exact k0_off9_inb L (halfOf b)
  | 4 => exact k0_off10_inb L (halfOf b)

/-! ## The passes -/

/-- `f` at each of the ten buffers in turn, then `k`. -/
def pass {L : grid0.Coords} (f : Fin 10 → Pg F L) (k : Pg F L) : Pg F L :=
  [(0 : Fin 10), 1, 2, 3, 4, 5, 6, 7, 8, 9].foldr (fun b p => f b >>= fun _ => p) k

/-- One trip of the loop: each buffer's gather waited for and its write-out started; then each write-out waited for and
    the next group's gather started. -/
def trip (L : grid0.Coords) (t : Fin k0_t1_loop.trips) : Pg F L :=
  pass (fun b => opGathered L b >>= fun _ => opStore L b (outT L t b) (outT_inb L t b)) <|
  pass (fun b => opStored L b (k0_off3 L) (k0_off3_inb L) >>= fun _ => opGather L b (lstT t b) (lstT_inb t b)) <|
  pure ⟨⟩

/-- The tile's program: its identifiers fetched; the first group's gathers; the loop; the last group. -/
def canon (L : grid0.Coords) : Pg F L := do
  Prog.lift (.enqueueDma (idsK L) (.here sV) (.dma cc0_scoped0.sem) ((View.wordExact_bits rfl).reshape _ _) (Memref.isWhole_whole _).wordExact ⟨Or.inl rfl, trivial⟩)
  Prog.lift (.waitDma2 cc0_scoped0.sem (idsK L) sV ((View.wordExact_bits rfl).reshape _ _) (Memref.isWhole_whole _).wordExact)
  pass (fun b => opGather L b (lst0 b) (lst0_inb b)) (pure ⟨⟩)
  Scf.Loop.for k0_t1_loop k0_t1_ok ⟨⟩ fun t _ => trip L t
  pass (fun b => opGathered L b >>= fun _ => opStore L b (outE L b) (outE_inb L b)) <|
    pass (fun b => opStored L b (k0_off11 L) (k0_off11_inb L)) <| pure ⟨⟩

set_option maxRecDepth 65536 in
/-- A printed trip is the trip above. -/
theorem trip_eq (L : grid0.Coords) (v : BitVec 32) (t : Fin k0_t1_loop.trips) :
    k0_t1_body (F := F) L iV (Memref.isWhole_whole _) xV (Memref.isWhole_whole _) oV (Memref.isWhole_whole _)
        sV (Memref.isWhole_whole _) rV (Memref.isWhole_whole _) cc0_scratch2 cc0_scratch3 cc0_scratch4 cc0_scratch5 cc0_scratch6
        cc0_scratch7 cc0_scratch8 cc0_scratch9 cc0_scratch10 cc0_scratch11 cc0_scratch12 cc0_scratch13 cc0_scratch14 cc0_scratch15
        cc0_scratch16 cc0_scratch17 cc0_scratch18 cc0_scratch19 cc0_scratch20 cc0_scratch21 cc0_scoped0 v t ()
      = trip L t := by
  rfl

/-- The printed body at the buffers and semaphores the kernel is launched with. -/
abbrev bodyK (L : grid0.Coords) : Pg F L :=
  cc0__emb_body (F := F) L iV (Memref.isWhole_whole _) xV (Memref.isWhole_whole _) oV (Memref.isWhole_whole _)
    sV (Memref.isWhole_whole _) rV (Memref.isWhole_whole _) cc0_scratch2 cc0_scratch3 cc0_scratch4 cc0_scratch5 cc0_scratch6
    cc0_scratch7 cc0_scratch8 cc0_scratch9 cc0_scratch10 cc0_scratch11 cc0_scratch12 cc0_scratch13 cc0_scratch14 cc0_scratch15
    cc0_scratch16 cc0_scratch17 cc0_scratch18 cc0_scratch19 cc0_scratch20 cc0_scratch21 cc0_scoped0

set_option maxRecDepth 65536 in
/-- The printed body is the program above. -/
theorem body_eq (L : grid0.Coords) : bodyK (F := F) L = canon L := by
  unfold bodyK
  simp only [cc0__emb_body_eq_skeleton, cc0__emb_body_skel, k0_part22_eq_skeleton, k0_part22_skel, k0_part14_eq_skeleton, k0_part14_skel,
    trip_eq, bind_assoc, canon]
  rfl

end Cert.Proof.Emb

end
-- ==== Proof.Value.lean ====
/-
  What a tile's transfers carry, element by element: the identifiers a tile fetches, the row numbers one gather reads,
  and the block of the output one gathered buffer becomes.
-/
module

public import proofs.«01_k».proof.Proof.Canon
public import Idealize.ShloMosaic.Lib.ValueLayout

@[expose] public section

noncomputable section

namespace Cert.Proof.Emb

open Cert.KernelIdeal Cert.KernelIdeal.Gen

open Idealize.ShloMosaic Idealize.ShloMosaic.ValueIdx Idealize.SL.Sem

variable {F : FTy → Type}

/-- There are two SparseCores. -/
theorem bound_zero : grid0.bound 0 = 2 := rfl
/-- There are sixteen tiles to a SparseCore. -/
theorem bound_one : grid0.bound 1 = 16 := rfl
/-- A tile's SparseCore is one of two. -/
theorem core_lt (L : grid0.Coords) : (L 0).val < 2 := (L 0).isLt
/-- A tile's subcore is one of sixteen. -/
theorem sub_lt (L : grid0.Coords) : (L 1).val < 16 := (L 1).isLt

/-- The tile's number: twice its subcore's, plus its SparseCore's. -/
def wid (L : grid0.Coords) : Fin 32 := ⟨2 * (L 1).val + (L 0).val, by have := core_lt L; have := sub_lt L; omega⟩

/-- The identifiers of one tile: its row of the array. -/
def idxF (L : grid0.Coords) (ids : S32x50x128.Idx → Elt F .i32) : S50x128.Idx → Elt F .i32 :=
  fun y => ids (ix3 (wid L) (y 0) (y 1))

/-- The row of the table an identifier names. -/
def rowNo (w : BitVec 32) : Fin 100000 := ⟨w.toNat % 100000, Nat.mod_lt _ (by omega)⟩

/-- The lookup: position `l` of sentence `j` gets the table's row named by the identifier there, sentences being
    `128` to a tile. -/
def tgtF (ids : S32x50x128.Idx → Elt F .i32) (tab : S100000x128.Idx → Elt F .f32) : S50x4096x128.Idx → Elt F .f32 :=
  fun x => tab (ix2 (rowNo (ids (ix3 ⟨(x 1).val / 128, by have : (x 1).val < 4096 := (x 1).isLt; omega⟩ (x 0)
    ⟨(x 1).val % 128, Nat.mod_lt _ (by omega)⟩))) (x 2))

/-! ## Where the views put their indices -/

/-- A dropped leading axis of extent one is put back at coordinate zero. -/
theorem squeeze3 {p q : Nat} (h : (⟨2, ![p, q]⟩ : Shape).numel = (⟨3, ![1, p, q]⟩ : Shape).numel) (x : (⟨2, ![p, q]⟩ : Shape).Idx) (a : Fin 3) :
    (Shape.reshapeEquiv h x a : Nat) = (![0, (x 0).val, (x 1).val] : Fin 3 → Nat) a := by
  rw [show Shape.reshapeEquiv h x = Fin.cons ⟨0, Nat.one_pos⟩ x from Shape.reshapeEquiv_cons_one h x]
  match a with
  | 0 => rfl
  | 1 => rfl
  | 2 => rfl
/-- The same for an array of rank one. -/
theorem squeeze2 {p : Nat} (h : (⟨1, ![p]⟩ : Shape).numel = (⟨2, ![1, p]⟩ : Shape).numel) (x : (⟨1, ![p]⟩ : Shape).Idx) (a : Fin 2) :
    (Shape.reshapeEquiv h x a : Nat) = (![0, (x 0).val] : Fin 2 → Nat) a := by
  rw [show Shape.reshapeEquiv h x = Fin.cons ⟨0, Nat.one_pos⟩ x from Shape.reshapeEquiv_cons_one h x]
  match a with
  | 0 => rfl
  | 1 => rfl

/-- Where a block of the output puts its element `x`. -/
theorem emb_outK (off : Fin 3 → Nat) (h : ∀ a, off a + S1x64x128.size a ≤ S50x4096x128.size a) (x : S64x128.Idx) (a : Fin 3) :
    ((outK off h).view.emb x a).val = off a + (![0, (x 0).val, (x 1).val] : Fin 3 → Nat) a := by
  show off a + 1 * (Shape.reshapeEquiv squeezes_S1x64x128_S64x128.numel_eq x a : Nat) = _
  exact congrArg (off a + ·) ((Nat.one_mul _).trans (squeeze3 squeezes_S1x64x128_S64x128.numel_eq x a))

/-- Where row buffer `b` puts its element `x`. -/
theorem emb_rowK (b : Fin 10) (x : S64x128.Idx) (a : Fin 3) :
    ((rowK b).view.emb x a).val = (![b.val, (x 0).val, (x 1).val] : Fin 3 → Nat) a := by
  show (![b.val, 0, 0] : Fin 3 → Nat) a + 1 * (Shape.reshapeEquiv squeezes_S1x64x128_S64x128.numel_eq x a : Nat) = _
  refine (congrArg ((![b.val, 0, 0] : Fin 3 → Nat) a + ·) ((Nat.one_mul _).trans (squeeze3 squeezes_S1x64x128_S64x128.numel_eq x a))).trans ?_
  match a with
  | 0 => rfl
  | 1 => exact Nat.zero_add _
  | 2 => exact Nat.zero_add _

/-- Where a tile's row of the identifiers puts its element `y`. -/
theorem emb_idsK (L : grid0.Coords) (y : S50x128.Idx) : (idsK L).view.emb y = ix3 (wid L) (y 0) (y 1) := by
  funext a; apply Fin.ext
  show k0_off1 L a + 1 * (Shape.reshapeEquiv squeezes_S1x50x128_S50x128.numel_eq y a : Nat) = _
  refine (congrArg (k0_off1 L a + ·) ((Nat.one_mul _).trans (squeeze3 squeezes_S1x50x128_S50x128.numel_eq y a))).trans ?_
  show k0_off1 L a + _ = _
  rw [k0_off1_eq]
  match a with
  | 0 => rfl
  | 1 => exact Nat.zero_add _
  | 2 => exact Nat.zero_add _

/-- Where a list of 64 identifiers puts its element `y`. -/
theorem emb_lstK (off : Fin 2 → Nat) (h : ∀ a, off a + S1x64.size a ≤ S50x128.size a) (y : S64.Idx) (a : Fin 2) :
    ((lstK off h).view.emb y a).val = off a + (![0, (y 0).val] : Fin 2 → Nat) a := by
  show off a + 1 * (Shape.reshapeEquiv squeezes_S1x64_S64.numel_eq y a : Nat) = _
  exact congrArg (off a + ·) ((Nat.one_mul _).trans (squeeze2 squeezes_S1x64_S64.numel_eq y a))

/-- The table seen whole leaves its indices alone. -/
theorem emb_tabK (x : S100000x128.Idx) : tabK.view.emb x = x := by
  funext a; apply Fin.ext
  show ((Rect.unit (s := S100000x128) ![0, 0] S100000x128.size inb_S100000x128_S100000x128_0_0).emb x a : Nat) = _
  rw [Rect.emb_apply]
  match a with
  | 0 => show 0 + 1 * (x 0).val = (x 0).val; omega
  | 1 => show 0 + 1 * (x 1).val = (x 1).val; omega

/-! ## What the views read -/

/-- A tile's row of the identifiers, read. -/
theorem read_idsK (L : grid0.Coords) (ids : S32x50x128.Idx → Elt F .i32) : (idsK L).view.read (Elt F) ids = idxF L ids :=
  funext fun y => ((View.read_apply _ _).trans (cast_eq _ _)).trans (congrArg ids (emb_idsK L y))

/-- A list of 64 identifiers, read. -/
theorem read_lstK (off : Fin 2 → Nat) (h : ∀ a, off a + S1x64.size a ≤ S50x128.size a) (f : S50x128.Idx → Elt F .i32) (y : S64.Idx) :
    (lstK off h).view.read (Elt F) f y = f ((lstK off h).view.emb y) := (View.read_apply _ _).trans (cast_eq _ _)

/-- A block of the output, read. -/
theorem read_outK (off : Fin 3 → Nat) (h : ∀ a, off a + S1x64x128.size a ≤ S50x4096x128.size a) (f : S50x4096x128.Idx → Elt F .f32) (x : S64x128.Idx) :
    (outK off h).view.read (Elt F) f x = f ((outK off h).view.emb x) := (View.read_apply _ _).trans (cast_eq _ _)

/-- The table, read whole. -/
theorem read_tabK (f : S100000x128.Idx → Elt F .f32) : tabK.view.read (Elt F) f = f :=
  funext fun x => ((View.read_apply _ _).trans (cast_eq _ _)).trans (congrArg f (emb_tabK x))

/-- Row numbers in the range of the table stay so in any list of them. -/
theorem lst_lt (L : grid0.Coords) (ids : S32x50x128.Idx → Elt F .i32) (hids : ∀ j, (ids j).toNat < 100000)
    (off : Fin 2 → Nat) (h : ∀ a, off a + S1x64.size a ≤ S50x128.size a) (x : S64.Idx) :
    ((lstK off h).view.read (Elt F) (idxF L ids) x).toNat < S100000x128.size gathers_S100000x128_S64x128.axis := by
  rw [read_lstK]; exact hids _

/-- THE BLOCK A GATHER BRINGS: the rows named by 64 consecutive identifiers of the tile at position `l`, from `64 * h` on,
    are the lookup's values in the block of the output at that position and the tile's sentences from `64 * h` on. -/
theorem payload_eq (L : grid0.Coords) (ids : S32x50x128.Idx → Elt F .i32) (tab : S100000x128.Idx → Elt F .f32)
    (hids : ∀ j, (ids j).toNat < 100000) (l hh : Nat) (hl : hh < 2)
    (lo : Fin 2 → Nat) (hlo : ∀ a, lo a + S1x64.size a ≤ S50x128.size a) (elo : lo = ![l, 64 * hh])
    (oo : Fin 3 → Nat) (hoo : ∀ a, oo a + S1x64x128.size a ≤ S50x4096x128.size a)
    (eoo : oo = ![l, 256 * (L 1).val + 128 * (L 0).val + 64 * hh, 0]) (hn : S64.numel = S64x128.size gathers_S100000x128_S64x128.axis') :
    SparseCore.gatherPayload gathers_S100000x128_S64x128 (tabK.view.read (Elt F) tab)
        (SparseCore.rows ((lstK lo hlo).view.read (Elt F) (idxF L ids)) hn (lst_lt L ids hids lo hlo))
      = (outK oo hoo).view.read (Elt F) (tgtF ids tab) := by
  subst elo eoo
  funext x
  rw [read_outK, read_tabK]
  unfold SparseCore.gatherPayload tgtF
  refine congrArg tab (funext fun a => Fin.ext ?_)
  have e1 := emb_outK _ hoo x 1
  have hx : (x 0).val < 64 := (x 0).isLt
  have hc := core_lt L
  have hs := sub_lt L
  match a with
  | 0 =>
    show ((lstK _ hlo).view.read (Elt F) (idxF L ids) _).toNat = (ids _).toNat % 100000
    rw [Nat.mod_eq_of_lt (hids _), read_lstK]
    unfold idxF
    refine congrArg (fun z => (ids z).toNat) (funext fun c => Fin.ext ?_)
    have hy : ((S64.rowMajor.symm ((x 0).cast hn.symm)) 0).val = (x 0).val := by
      have := Shape.rowMajor_val_one (S64.rowMajor.symm ((x 0).cast hn.symm))
      rw [Equiv.apply_symm_apply] at this
      exact this.symm
    match c with
    | 0 =>
      show 2 * (L 1).val + (L 0).val = ((outK _ hoo).view.emb x 1).val / 128
      rw [e1]
      show _ = (256 * (L 1).val + 128 * (L 0).val + 64 * hh + (x 0).val) / 128
      omega
    | 1 =>
      show ((lstK _ hlo).view.emb _ 0).val = ((outK _ hoo).view.emb x 0).val
      rw [emb_lstK, emb_outK]; rfl
    | 2 =>
      show ((lstK _ hlo).view.emb _ 1).val = ((outK _ hoo).view.emb x 1).val % 128
      rw [e1, emb_lstK]
      show 64 * hh + ((S64.rowMajor.symm ((x 0).cast hn.symm)) 0).val = (256 * (L 1).val + 128 * (L 0).val + 64 * hh + (x 0).val) % 128
      rw [hy]; omega
  | 1 =>
    show _ = ((outK _ hoo).view.emb x 2).val
    rw [emb_outK]
    show (x 1).val = 0 + (x 1).val
    omega

end Cert.Proof.Emb

end
-- ==== Proof.Steps.lean ====
/-
  The tile's transfers one at a time: what each step of row buffer `b` takes and gives back, and the pass over the ten
  buffers.
-/
module

public import proofs.«01_k».proof.Proof.Value
public import Idealize.ShloMosaic.Lib.SparseCore.Scatter

@[expose] public section

noncomputable section

namespace Cert.Proof.Emb

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the ghost state -/

/-- The program's labels. -/
abbrev ΛP : Labels := Pipeline.Sig Λ₀ (Fin 0) fun p => (pcfgs (F := F) p).Adm
/-- The launch's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop variant is needed. -/
abbrev 𝒱₀ : Variants := Variants.none
/-- The variants, lifted to the launch. -/
abbrev 𝒱 : Variants := 𝒱₀.lift
/-- The variant that the launch starts from. -/
abbrev v₀ : 𝒱.V := Sum.inl none

/-- The handshakes' ghost state. -/
abbrev UH : Type := URounds (GSem nD τ sig) ℕ
/-- All ghost state: the handshakes' and the transfers' counters. -/
abbrev UU : Type := UH × Counters

local notation "𝕄" => MT nD τ sig (HIx 1) (Elt F) ℕ UU ℕ

/-- The thread of the tile at `L` on device `d`. -/
abbrev thr (d : Dev nD) (L : grid0.Coords) : Thread nD τ := V d (cV L) (jV L)

/-! ## The blocks of the output -/

/-- Where the block of group `g` and buffer `b` starts. -/
def oOff (L : grid0.Coords) (g b : Fin 10) : Fin 3 → Nat :=
  ![5 * g.val + b.val / 2, 256 * (L 1).val + 128 * (L 0).val + 64 * (b.val % 2), 0]
/-- Every block of the output lies within it. -/
theorem oOff_inb (L : grid0.Coords) (g b : Fin 10) : ∀ a, oOff L g b a + S1x64x128.size a ≤ S50x4096x128.size a := by
  have hc := core_lt L
  have hs := sub_lt L
  intro a
  match a with
  | 0 => show 5 * g.val + b.val / 2 + 1 ≤ 50; omega
  | 1 => show 256 * (L 1).val + 128 * (L 0).val + 64 * (b.val % 2) + 64 ≤ 4096; omega
  | 2 => show 0 + 128 ≤ 128; omega

/-- The elements of that block. -/
abbrev piece (L : grid0.Coords) (g b : Fin 10) : Finset S50x4096x128.Idx := (outK (oOff L g b) (oOff_inb L g b)).view.set

/-! ## What the tile holds -/

section Res

variable (d : Dev nD) (L : grid0.Coords)
variable (ids : S32x50x128.Idx → Elt F .i32) (tab : S100000x128.Idx → Elt F .f32)

/-- The ten shares of a share, one to a row buffer. -/
abbrev shareB (q : PosShare TreeShare) (b : Fin 10) : PosShare TreeShare := Transfers.dealOf q Finset.univ b

/-- Buffer `b`'s share of the table and of the tile's identifiers. -/
def res (q : PosShare TreeShare) (b : Fin 10) : sProp 𝕄 :=
  iprop(((tabK).view.loc (thr d L) ↦[(tabK).view.set]{shareB q b} tab)
    ∗ ((sV).view.loc (thr d L) ↦{shareB fullShare b} idxF L ids))

/-- Row buffer `b`, whatever it holds. -/
def rowAny (b : Fin 10) : sProp 𝕄 :=
  iprop(∃ f : Buf (Elt F) ((rowK b).view.loc (thr d L)), (rowK b).view.loc (thr d L) ↦[(rowK b).view.set]{fullShare} f)

/-- Row buffer `b` holding the rows of group `g`. -/
def rowTgt (g b : Fin 10) : sProp 𝕄 :=
  iprop(∃ f : Buf (Elt F) ((rowK b).view.loc (thr d L)),
    ⌜(rowK b).view.read (Elt F) f = (outK (oOff L g b) (oOff_inb L g b)).view.read (Elt F) (tgtF ids tab)⌝
      ∗ ((rowK b).view.loc (thr d L) ↦[(rowK b).view.set]{fullShare} f))

/-- The block of group `g` and buffer `b` at the contents `f`. -/
def blk (f : S50x4096x128.Idx → Elt F .f32) (g b : Fin 10) : sProp 𝕄 :=
  iprop((oV).view.loc (thr d L) ↦[piece L g b]{fullShare} f)

/-- Row buffer `b`'s gather counter on this tile. -/
abbrev gcell (b : Fin 10) : GSem nD τ sig := (thr d L, .dma (gsem b))
/-- Row buffer `b`'s store counter on this tile. -/
abbrev scell (b : Fin 10) : GSem nD τ sig := (thr d L, .dma (ssem b))

/-- What a transfer of one block counts. -/
abbrev amt : ℕ := (rowK 0).view.dmaCredit

/-- Buffer `b`'s gather of group `g`, in flight. -/
def gath (q : PosShare TreeShare) (g b : Fin 10) : sProp 𝕄 :=
  Transfers.Flight countersEmb (thr d L) (.dma (gsem b)) (default : HIx 1) amt iprop(rowTgt d L ids tab g b ∗ res d L ids tab q b)

/-- Buffer `b`'s write-out of group `g`, in flight. -/
def stor (g b : Fin 10) : sProp 𝕄 :=
  Transfers.Flight countersEmb (thr d L) (.dma (ssem b)) (default : HIx 1) amt iprop(blk d L (tgtF ids tab) g b ∗ rowAny d L b)

/-- What the tile owes throughout, its waits recorded, and that it may wait. -/
def duty (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

end Res

/-! ## The pass over the buffers -/

variable [FloatOps F]

/-- A tile's program meets a postcondition. -/
abbrev wpT (d : Dev nD) (L : grid0.Coords) (p : Pg F L) (Q : PUnit → sProp 𝕄) : sProp 𝕄 :=
  wp frame (wpE (defs₀ (F := F)) 𝒱₀ (thr d L) none) Set.univ p Q

/-- The program that does nothing. -/
theorem wpT_pure (d : Dev nD) (L : grid0.Coords) (Q : PUnit → sProp 𝕄) : Q ⟨⟩ ⊢ wpT d L (pure ⟨⟩) Q := by
  show _ ⊢ wp frame _ _ (pure _) Q
  rw [wp_pure]
  iintro H; imodintro; iexact H

/-- A pass over any list of buffers that names none twice. -/
theorem pass_list (d : Dev nD) (L : grid0.Coords) (f : Fin 10 → Pg F L) (k : Pg F L) (A B : Fin 10 → sProp 𝕄) (R : sProp 𝕄) (Q : PUnit → sProp 𝕄)
    (h : ∀ b, iprop(A b ∗ R) ⊢ wpT d L (f b) fun _ => iprop(B b ∗ R)) (l : List (Fin 10)) (hl : l.Nodup) :
    iprop(bigSep l.toFinset A ∗ R ∗ (iprop(bigSep l.toFinset B ∗ R) -∗ wpT d L k Q))
      ⊢ wpT d L (l.foldr (fun b p => f b >>= fun _ => p) k) Q := by
  induction l generalizing Q with
  | nil =>
    iintro ⟨-, HR, Hk⟩
    iapply Hk
    isplitr
    · rw [List.toFinset_nil, bigSep_empty]; iempintro
    · iexact HR
  | cons b l ih =>
    have hb : b ∉ l.toFinset := by rw [List.mem_toFinset]; exact (List.nodup_cons.mp hl).1
    rw [List.toFinset_cons, SparseCore.bigSep_insert' hb, SparseCore.bigSep_insert' hb]
    show _ ⊢ wp frame _ _ (f b >>= fun _ => l.foldr _ k) Q
    rw [wp_bind]
    iintro ⟨⟨HA, HAs⟩, HR, Hk⟩
    iapply wp_wand_r
    isplitl [HA HR]
    · iapply (h b); isplitl [HA] <;> iassumption
    iintro %x ⟨HB, HR⟩
    iapply (ih Q (List.nodup_cons.mp hl).2)
    isplitl [HAs]; · iexact HAs
    isplitl [HR]; · iexact HR
    iintro ⟨HBs, HR⟩
    iapply Hk
    isplitl [HB HBs]
    · isplitl [HB] <;> iassumption
    · iexact HR

/-- A pass: a step that turns `A b` into `B b` at each buffer, `R` kept, turns all of `A` into all of `B`. -/
theorem wp_pass (d : Dev nD) (L : grid0.Coords) (f : Fin 10 → Pg F L) (k : Pg F L) (A B : Fin 10 → sProp 𝕄) (R : sProp 𝕄) (Q : PUnit → sProp 𝕄)
    (h : ∀ b, iprop(A b ∗ R) ⊢ wpT d L (f b) fun _ => iprop(B b ∗ R)) :
    iprop(bigSep Finset.univ A ∗ R ∗ (iprop(bigSep Finset.univ B ∗ R) -∗ wpT d L k Q)) ⊢ wpT d L (pass f k) Q := by
  have e : (Finset.univ : Finset (Fin 10)) = [(0 : Fin 10), 1, 2, 3, 4, 5, 6, 7, 8, 9].toFinset := by decide
  rw [e]
  exact pass_list d L f k A B R Q h _ (by decide)

/-! ## One transfer, or one wait -/

section Ops

variable (d : Dev nD) (L : grid0.Coords)
variable (ids : S32x50x128.Idx → Elt F .i32) (tab : S100000x128.Idx → Elt F .f32)

omit [FloatOps F] in
theorem rows_amt (b : Fin 10) (hg : S100000x128.Gathers 0 S64x128) :
    ∑ j, ((rowK b).slice (S64x128.rowRect hg.axis' j) (S64x128.stride_rowRect hg.axis' j)).view.dmaCredit = amt := by
  show ∑ j, ((rowK 0).slice (S64x128.rowRect hg.axis' j) (S64x128.stride_rowRect hg.axis' j)).view.dmaCredit = amt
  revert hg; decide

/-- Starting buffer `b`'s gather of group `g`. -/
theorem wp_gather (hids : ∀ j, (ids j).toNat < 100000) (q : PosShare TreeShare) (g b : Fin 10)
    (off : Fin 2 → Nat) (h : ∀ a, off a + S1x64.size a ≤ S50x128.size a) (eoff : off = ![5 * g.val + b.val / 2, 64 * (b.val % 2)])
    (k : PUnit → Pg F L) (Q : PUnit → sProp 𝕄) :
    iprop(res d L ids tab q b ∗ rowAny d L b ∗ semVal (gcell d L b) 0)
      ⊢ iprop((gath d L ids tab q g b -∗ wpT d L (k ⟨⟩) Q) -∗ wpT d L (opGather L b off h >>= k) Q) := by
  unfold res rowAny gath opGather
  iintro ⟨⟨Hx, Hl⟩, ⟨%f, Hr⟩, Hsem⟩ Hk
  ihave Hls := (pointsTo_split_subset (ℓ := (sV).view.loc (thr d L)) (q := shareB fullShare b) (f := idxF L ids) (S := Finset.univ) (Finset.subset_univ (lstK off h).view.set)).1 $$ Hl
  icases Hls with ⟨Hl, Hlr⟩
  iapply (SparseCore.wp_indirectGatherLocal countersEmb 𝒱₀ (thr d L) none (hg := gathers_S100000x128_S64x128) (default : HIx 1)
      amt (rows_amt b _) (by decide) (lst_lt L ids hids off h)) $$ [Hx Hr Hl Hsem]
  · isplitl [Hx]; · iexact Hx
    isplitl [Hr]; · iexact Hr
    isplitl [Hl]; · iexact Hl
    iexact Hsem
  iintro Hfl
  iapply Hk
  ihave Hf := (Transfers.Flight_frame countersEmb (thr d L)) $$ [Hlr Hfl]
  · isplitl [Hlr]; · iexact Hlr
    iexact Hfl
  iapply (Transfers.Flight_mono countersEmb (thr d L)) $$ Hf
  iintro ⟨Hlr, Hr, Hx, Hl⟩
  isplitl [Hr]
  · unfold rowTgt
    iexists _
    isplitr
    swap; · iexact Hr
    ipureintro
    rw [View.read_write_univ]
    exact payload_eq L ids tab hids (5 * g.val + b.val / 2) (b.val % 2) (by omega) off h eoff (oOff L g b) (oOff_inb L g b) rfl _
  · unfold res
    isplitl [Hx]; · iexact Hx
    iapply (pointsTo_split_subset (q := shareB fullShare b) (f := idxF L ids) (S := Finset.univ) (Finset.subset_univ (lstK off h).view.set)).2
    isplitl [Hl]; · iexact Hl
    iexact Hlr

/-- Waiting for a gather, then `k`, in one piece. -/
theorem opGathered_bind (b : Fin 10) (k : PUnit → Pg F L) :
    opGathered L b >>= k = .op (.waitDma2 (gsem b) tabK (rowK b) (View.wordExact_bits rfl) ((View.wordExact_bits rfl).reshape _ _)) k := rfl
/-- Starting a store, then `k`, in one piece. -/
theorem opStore_bind (b : Fin 10) (off : Fin 3 → Nat) (h : ∀ a, off a + S1x64x128.size a ≤ S50x4096x128.size a) (k : PUnit → Pg F L) :
    opStore L b off h >>= k = .op (.enqueueDma (rowK b) (.here (outK off h)) (.dma (ssem b)) ((View.wordExact_bits rfl).reshape _ _)
      ((View.wordExact_bits rfl).reshape _ _) ⟨Or.inl rfl, trivial⟩) k := rfl
/-- Waiting for a store, then `k`, in one piece. -/
theorem opStored_bind (b : Fin 10) (off : Fin 3 → Nat) (h : ∀ a, off a + S1x64x128.size a ≤ S50x4096x128.size a) (k : PUnit → Pg F L) :
    opStored L b off h >>= k = .op (.waitDma2 (ssem b) (rowK b) (outK off h) ((View.wordExact_bits rfl).reshape _ _)
      ((View.wordExact_bits rfl).reshape _ _)) k := rfl

omit [FloatOps F] in
/-- One more wait on a semaphore of the tile's own is within what the tile may record. -/
theorem duty_insert (O : CellTallies nD τ sig (HIx 1)) (W W' : Waits sig (HIx 1)) (sm : SemLoc sig) (hW' : ∀ p ∈ W', p ∈ W ∨ p.2 = none) :
    iprop(Transfers.MayWaits (thr d L) (default : HIx 1) O ∗ owes (thr d L) O (insert (sm, (default : HIx 1)) W')) ⊢ (duty d L O W : sProp 𝕄) := by
  unfold duty
  iintro ⟨Hmw, HO⟩
  isplitl [Hmw]; · iexact Hmw
  iexists _
  isplitr
  swap; · iexact HO
  ipureintro
  intro p hp
  rcases Finset.mem_insert.mp hp with hp | hp
  · exact .inr (hp ▸ rfl)
  · exact hW' p hp

/-- Waiting for buffer `b`'s gather of group `g`. -/
theorem wp_gathered (O : CellTallies nD τ sig (HIx 1)) (W : Waits sig (HIx 1)) (q : PosShare TreeShare) (g b : Fin 10)
    (k : PUnit → Pg F L) (Q : PUnit → sProp 𝕄) :
    iprop(gath d L ids tab q g b ∗ duty d L O W)
      ⊢ iprop((iprop(rowTgt d L ids tab g b ∗ res d L ids tab q b ∗ semVal (gcell d L b) 0 ∗ duty d L O W) -∗ wpT d L (k ⟨⟩) Q)
          -∗ wpT d L (opGathered L b >>= k) Q) := by
  rw [opGathered_bind]
  unfold gath
  conv_lhs => unfold duty
  iintro ⟨Hfl, #Hmw, %W', %hW', HO⟩ Hk
  iapply (Transfers.wp_waitLocalO countersEmb 𝒱₀ (thr d L) none (default : HIx 1) (rfl : (rowK b).view.dmaCredit = _)) $$ [Hfl HO]
  · isplitl [Hfl]; · iexact Hfl
    isplitl [HO]; · iexact HO
    iapply (Transfers.MayWaits.elim (SemLoc.dma (gsem b))) $$ Hmw
  iintro ⟨⟨Hr, Hres⟩, Hsem, HO⟩
  iapply Hk
  isplitl [Hr]; · iexact Hr
  isplitl [Hres]; · iexact Hres
  isplitl [Hsem]; · iexact Hsem
  iapply (duty_insert d L O W W' _ hW')
  isplitr; · iexact Hmw
  iexact HO

/-- Starting buffer `b`'s write-out of group `g`. -/
theorem wp_store (g b : Fin 10) (off : Fin 3 → Nat) (h : ∀ a, off a + S1x64x128.size a ≤ S50x4096x128.size a) (eoff : off = oOff L g b)
    (f₀ : S50x4096x128.Idx → Elt F .f32) (k : PUnit → Pg F L) (Q : PUnit → sProp 𝕄) :
    iprop(rowTgt d L ids tab g b ∗ blk d L f₀ g b ∗ semVal (scell d L b) 0)
      ⊢ iprop((stor d L ids tab g b -∗ wpT d L (k ⟨⟩) Q) -∗ wpT d L (opStore L b off h >>= k) Q) := by
  subst eoff
  rw [opStore_bind]
  unfold rowTgt blk stor
  iintro ⟨⟨%f, %hf, Hr⟩, Ho, Hsem⟩ Hk
  iapply (Transfers.wp_dmaLocal countersEmb 𝒱₀ (thr d L) none (default : HIx 1) amt
    (rfl : (outK (oOff L g b) h).view.amount (.dma (ssem b)) = amt) (by decide) (Finset.Subset.refl _)) $$ [Hr Ho Hsem]
  · isplitl [Hr]; · iexact Hr
    isplitl [Ho]; · iexact Ho
    iexact Hsem
  iintro Hfl
  iapply Hk
  iapply (Transfers.Flight_mono countersEmb (thr d L)) $$ Hfl
  iintro ⟨Ho, Hr⟩
  isplitl [Ho]
  · unfold blk
    iapply (Entails.of_eq (pointsTo_congr (ℓ := (oV).view.loc (thr d L)) (q := fullShare) ?_)) $$ Ho
    intro i hi
    show (outK (oOff L g b) h).view.write (Elt F) f₀ ((rowK b).view.read (Elt F) f) Finset.univ i = _
    rw [hf, View.write_read_eq_piecewise]
    exact Finset.piecewise_eq_of_mem _ _ _ hi
  · unfold rowAny
    iexists _; iexact Hr

/-- Waiting for buffer `b`'s write-out. -/
theorem wp_stored (O : CellTallies nD τ sig (HIx 1)) (W : Waits sig (HIx 1)) (g b : Fin 10)
    (off : Fin 3 → Nat) (h : ∀ a, off a + S1x64x128.size a ≤ S50x4096x128.size a) (k : PUnit → Pg F L) (Q : PUnit → sProp 𝕄) :
    iprop(stor d L ids tab g b ∗ duty d L O W)
      ⊢ iprop((iprop(blk d L (tgtF ids tab) g b ∗ rowAny d L b ∗ semVal (scell d L b) 0 ∗ duty d L O W) -∗ wpT d L (k ⟨⟩) Q)
          -∗ wpT d L (opStored L b off h >>= k) Q) := by
  rw [opStored_bind]
  unfold stor
  conv_lhs => unfold duty
  iintro ⟨Hfl, #Hmw, %W', %hW', HO⟩ Hk
  iapply (Transfers.wp_waitLocalO countersEmb 𝒱₀ (thr d L) none (default : HIx 1) (rfl : (outK off h).view.dmaCredit = amt)) $$ [Hfl HO]
  · isplitl [Hfl]; · iexact Hfl
    isplitl [HO]; · iexact HO
    iapply (Transfers.MayWaits.elim (SemLoc.dma (ssem b))) $$ Hmw
  iintro ⟨⟨Ho, Hr⟩, Hsem, HO⟩
  iapply Hk
  isplitl [Ho]; · iexact Ho
  isplitl [Hr]; · iexact Hr
  isplitl [Hsem]; · iexact Hsem
  iapply (duty_insert d L O W W' _ hW')
  isplitr; · iexact Hmw
  iexact HO

/-! ## What each pass does at buffer `b` -/

/-- The first group's gather started. -/
theorem step_first (hids : ∀ j, (ids j).toNat < 100000) (R : sProp 𝕄) (q : PosShare TreeShare) (g b : Fin 10)
    (off : Fin 2 → Nat) (h : ∀ a, off a + S1x64.size a ≤ S50x128.size a) (eoff : off = ![5 * g.val + b.val / 2, 64 * (b.val % 2)]) :
    iprop((res d L ids tab q b ∗ rowAny d L b ∗ semVal (gcell d L b) 0) ∗ R)
      ⊢ wpT d L (opGather L b off h) fun _ => iprop(gath d L ids tab q g b ∗ R) := by
  rw [← bind_pure (opGather L b off h)]
  iintro ⟨H, HR⟩
  iapply (wp_gather d L ids tab hids q g b off h eoff) $$ H
  iintro Hg
  iapply (wpT_pure d L)
  isplitl [Hg] <;> iassumption

/-- A gather waited for and its write-out started. -/
theorem step_out (O : CellTallies nD τ sig (HIx 1)) (W : Waits sig (HIx 1)) (q : PosShare TreeShare) (g b : Fin 10)
    (off : Fin 3 → Nat) (h : ∀ a, off a + S1x64x128.size a ≤ S50x4096x128.size a) (eoff : off = oOff L g b) (f₀ : S50x4096x128.Idx → Elt F .f32) :
    iprop((gath d L ids tab q g b ∗ semVal (scell d L b) 0 ∗ blk d L f₀ g b) ∗ duty d L O W)
      ⊢ wpT d L (opGathered L b >>= fun _ => opStore L b off h) fun _ =>
          iprop((res d L ids tab q b ∗ semVal (gcell d L b) 0 ∗ stor d L ids tab g b) ∗ duty d L O W) := by
  iintro ⟨⟨Hg, Hs, Ho⟩, HR⟩
  iapply (wp_gathered d L ids tab O W q g b) $$ [Hg HR]
  · isplitl [Hg] <;> iassumption
  iintro ⟨Hr, Hres, Hgs, HR⟩
  rw [← bind_pure (opStore L b off h)]
  iapply (wp_store d L ids tab g b off h eoff f₀) $$ [Hr Ho Hs]
  · isplitl [Hr]; · iexact Hr
    isplitl [Ho]; · iexact Ho
    iexact Hs
  iintro Hst
  iapply (wpT_pure d L)
  isplitr [HR]
  · isplitl [Hres]; · iexact Hres
    isplitl [Hgs]; · iexact Hgs
    iexact Hst
  · iexact HR

/-- A write-out waited for and the next group's gather started. -/
theorem step_next (hids : ∀ j, (ids j).toNat < 100000) (O : CellTallies nD τ sig (HIx 1)) (W : Waits sig (HIx 1)) (q : PosShare TreeShare) (g g' b : Fin 10)
    (off : Fin 3 → Nat) (h : ∀ a, off a + S1x64x128.size a ≤ S50x4096x128.size a)
    (lo : Fin 2 → Nat) (hlo : ∀ a, lo a + S1x64.size a ≤ S50x128.size a) (elo : lo = ![5 * g'.val + b.val / 2, 64 * (b.val % 2)]) :
    iprop((res d L ids tab q b ∗ semVal (gcell d L b) 0 ∗ stor d L ids tab g b) ∗ duty d L O W)
      ⊢ wpT d L (opStored L b off h >>= fun _ => opGather L b lo hlo) fun _ =>
          iprop((gath d L ids tab q g' b ∗ semVal (scell d L b) 0 ∗ blk d L (tgtF ids tab) g b) ∗ duty d L O W) := by
  iintro ⟨⟨Hres, Hg, Hst⟩, HR⟩
  iapply (wp_stored d L ids tab O W g b off h) $$ [Hst HR]
  · isplitl [Hst] <;> iassumption
  iintro ⟨Ho, Hr, Hs, HR⟩
  rw [← bind_pure (opGather L b lo hlo)]
  iapply (wp_gather d L ids tab hids q g' b lo hlo elo) $$ [Hres Hr Hg]
  · isplitl [Hres]; · iexact Hres
    isplitl [Hr]; · iexact Hr
    iexact Hg
  iintro Hga
  iapply (wpT_pure d L)
  isplitr [HR]
  · isplitl [Hga]; · iexact Hga
    isplitl [Hs]; · iexact Hs
    iexact Ho
  · iexact HR

/-- The last group's write-out waited for. -/
theorem step_last (O : CellTallies nD τ sig (HIx 1)) (W : Waits sig (HIx 1)) (q : PosShare TreeShare) (g b : Fin 10)
    (off : Fin 3 → Nat) (h : ∀ a, off a + S1x64x128.size a ≤ S50x4096x128.size a) :
    iprop((res d L ids tab q b ∗ semVal (gcell d L b) 0 ∗ stor d L ids tab g b) ∗ duty d L O W)
      ⊢ wpT d L (opStored L b off h) fun _ =>
          iprop((res d L ids tab q b ∗ semVal (gcell d L b) 0 ∗ rowAny d L b ∗ semVal (scell d L b) 0 ∗ blk d L (tgtF ids tab) g b) ∗ duty d L O W) := by
  iintro ⟨⟨Hres, Hg, Hst⟩, HR⟩
  rw [← bind_pure (opStored L b off h)]
  iapply (wp_stored d L ids tab O W g b off h) $$ [Hst HR]
  · isplitl [Hst] <;> iassumption
  iintro ⟨Ho, Hr, Hs, HR⟩
  iapply (wpT_pure d L)
  isplitr [HR]
  · isplitl [Hres]; · iexact Hres
    isplitl [Hg]; · iexact Hg
    isplitl [Hr]; · iexact Hr
    isplitl [Hs]; · iexact Hs
    iexact Ho
  · iexact HR

end Ops

end Cert.Proof.Emb

end
-- ==== Proof.Tile.lean ====
/-
  One tile's run: from its shares of the identifiers and the table and its columns of the output, to those columns
  holding the lookup.
-/
module

public import proofs.«01_k».proof.Proof.Steps

@[expose] public section

noncomputable section

namespace Cert.Proof.Emb

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The offsets the program computes are those of the group they belong to -/

/-- The number of groups, as an index. -/
def gOf (n : ℕ) : Fin 10 := ⟨n % 10, Nat.mod_lt _ (by omega)⟩

/-- The loop makes nine trips. -/
theorem trips_eq : k0_t1_loop.trips = 9 := by decide +kernel
/-- A trip is one of nine. -/
theorem trip_lt (t : Fin k0_t1_loop.trips) : t.val < 9 := lt_of_lt_of_eq t.isLt trips_eq

/-- The first gathers are those of group 0. -/
theorem lst0_eq (b : Fin 10) : lst0 b = ![5 * (gOf 0).val + b.val / 2, 64 * (b.val % 2)] := by
  revert b; decide

/-- Trip `t` starts the gathers of group `t + 1`. -/
theorem lstT_eq (t : Fin k0_t1_loop.trips) (b : Fin 10) : lstT t b = ![5 * (gOf (t.val + 1)).val + b.val / 2, 64 * (b.val % 2)] := by
  have ht := trip_lt t
  have e : (gOf (t.val + 1)).val = t.val + 1 := Nat.mod_eq_of_lt (by omega)
  rw [e]
  unfold lstT
  split
  next h => rw [k0_off4_eq t (rowOf b), h]; show ![5 * t.val + b.val / 2 + 5, 0] = _; rw [show 5 * t.val + b.val / 2 + 5 = 5 * (t.val + 1) + b.val / 2 by omega]
  next h => rw [k0_off5_eq t (rowOf b), show b.val % 2 = 1 by omega]; show ![5 * t.val + b.val / 2 + 5, 64] = _; rw [show 5 * t.val + b.val / 2 + 5 = 5 * (t.val + 1) + b.val / 2 by omega]

/-- Trip `t` stores group `t`. -/
theorem outT_eq (L : grid0.Coords) (t : Fin k0_t1_loop.trips) (b : Fin 10) : outT L t b = oOff L (gOf t.val) b := by
  have ht := trip_lt t
  unfold outT oOff
  rw [show (gOf t.val).val = t.val from Nat.mod_eq_of_lt (by omega), k0_off2_eq L t (rowOf b) (halfOf b)]

/-- The stores after the loop are those of group 9. -/
theorem outE_eq (L : grid0.Coords) (b : Fin 10) : outE L b = oOff L (gOf 9) b := by
  have hb : b.val / 2 = (rowOf b).val := rfl
  unfold outE oOff
  rw [show (gOf 9).val = 9 from rfl, hb]
  generalize rowOf b = r
  match r with
  | 0 => exact k0_off6_eq L (halfOf b)
  | 1 => exact k0_off7_eq L (halfOf b)
  | 2 => exact k0_off8_eq L (halfOf b)
  | 3 => exact k0_off9_eq L (halfOf b)
  | 4 => exact k0_off10_eq L (halfOf b)

/-! ## The passes, the trip and the loop -/

section Run

variable (d : Dev nD) (L : grid0.Coords)
variable (ids : S32x50x128.Idx → Elt F .i32) (tab : S100000x128.Idx → Elt F .f32) (f₀ : S50x4096x128.Idx → Elt F .f32)

/-- The ten blocks of a group, at the contents `f`. -/
def grp (f : S50x4096x128.Idx → Elt F .f32) (g : Fin 10) : sProp 𝕄 := bigSep Finset.univ fun b => blk d L f g b

/-- The output's contents in group `g` when the groups below `n` are written. -/
def mix (n : ℕ) (g : Fin 10) : S50x4096x128.Idx → Elt F .f32 := if g.val < n then tgtF ids tab else f₀

/-- The output of the tile when the groups below `n` are written. -/
def outs (n : ℕ) : sProp 𝕄 := bigSep Finset.univ fun g => grp d L (mix ids tab f₀ n g) g

/-- What the output is but for group `g`. -/
def outsBut (n : ℕ) (g : Fin 10) : sProp 𝕄 := bigSep (Finset.univ.erase g) fun g => grp d L (mix ids tab f₀ n g) g

/-- With `g` groups done, group `g` is as it was. -/
theorem mix_self (g : Fin 10) : mix ids tab f₀ g.val g = f₀ := if_neg (lt_irrefl _)
/-- With `g + 1` groups done, group `g` is done. -/
theorem mix_succ (g : Fin 10) : mix ids tab f₀ (g.val + 1) g = tgtF ids tab := if_pos (Nat.lt_succ_self _)
/-- With none done, each group is as it was. -/
theorem mix_zero (g : Fin 10) : mix ids tab f₀ 0 g = f₀ := if_neg (Nat.not_lt_zero _)
/-- With ten done, each group is done. -/
theorem mix_ten (g : Fin 10) : mix ids tab f₀ 10 g = tgtF ids tab := if_pos g.isLt
/-- Group `g` done, no other group has changed. -/
theorem mix_ne {g g' : Fin 10} (h : g' ≠ g) : mix ids tab f₀ (g.val + 1) g' = mix ids tab f₀ g.val g' := by
  have hne : g'.val ≠ g.val := fun e => h (Fin.ext e)
  unfold mix
  by_cases h : g'.val < g.val
  · rw [if_pos h, if_pos (by omega)]
  · rw [if_neg h, if_neg (by omega)]

/-- A group taken out of the output before it is written, -/
theorem outs_take (g : Fin 10) : (outs d L ids tab f₀ g.val : sProp 𝕄) = iprop(grp d L f₀ g ∗ outsBut d L ids tab f₀ g.val g) := by
  unfold outs outsBut
  rw [SparseCore.bigSep_erase' (Finset.mem_univ g), mix_self]

/-- and put back written. -/
theorem outs_put (g : Fin 10) : (outs d L ids tab f₀ (g.val + 1) : sProp 𝕄) = iprop(grp d L (tgtF ids tab) g ∗ outsBut d L ids tab f₀ g.val g) := by
  unfold outs outsBut
  rw [SparseCore.bigSep_erase' (Finset.mem_univ g), mix_succ,
    bigSep_congr (s := Finset.univ.erase g) (Ψ := fun g' => grp d L (mix ids tab f₀ g.val g') g') fun g' hg' =>
      congrArg (fun f => grp d L f g') (mix_ne ids tab f₀ (Finset.mem_erase.mp hg').1)]

/-- What the tile holds when `n` trips are done. -/
def inv (q : PosShare TreeShare) (O : CellTallies nD τ sig (HIx 1)) (W : Waits sig (HIx 1)) (n : ℕ) : sProp 𝕄 :=
  iprop((bigSep Finset.univ fun b => iprop(gath d L ids tab q (gOf n) b ∗ semVal (scell d L b) 0)) ∗ outs d L ids tab f₀ n ∗ duty d L O W)

variable [FloatOps F]

omit [FloatOps F] in
theorem sep_assoc_eq (A B C : sProp 𝕄) : iprop((A ∗ B) ∗ C) = iprop(A ∗ B ∗ C) :=
  have h : iprop((A ∗ B) ∗ C) ⊣⊢ iprop(A ∗ B ∗ C) := sep_assoc
  BI.Entails.antisymm h.1 h.2

omit [FloatOps F] in
/-- The blocks of a group dealt to the buffers whose gathers are in flight. -/
theorem deal (q : PosShare TreeShare) (g g' : Fin 10) :
    iprop((bigSep Finset.univ fun b => iprop(gath d L ids tab q g b ∗ semVal (scell d L b) 0)) ∗ grp d L f₀ g')
      = (bigSep Finset.univ fun b => iprop(gath d L ids tab q g b ∗ semVal (scell d L b) 0 ∗ blk d L f₀ g' b) : sProp 𝕄) := by
  unfold grp
  simp only [bigSep_sep']
  exact sep_assoc_eq _ _ _

/-- One trip. -/
theorem wp_trip (hids : ∀ j, (ids j).toNat < 100000) (q : PosShare TreeShare) (O : CellTallies nD τ sig (HIx 1)) (W : Waits sig (HIx 1))
    (t : Fin k0_t1_loop.trips) :
    inv d L ids tab f₀ q O W t.val ⊢ wpT d L (trip L t) fun _ => inv d L ids tab f₀ q O W (t.val + 1) := by
  have ht := trip_lt t
  have e : t.val = (gOf t.val).val := (Nat.mod_eq_of_lt (by omega)).symm
  unfold inv trip
  rw [show outs d L ids tab f₀ t.val = outs d L ids tab f₀ (gOf t.val).val from congrArg _ e,
    show outs d L ids tab f₀ (t.val + 1) = outs d L ids tab f₀ ((gOf t.val).val + 1) from congrArg (fun n => outs d L ids tab f₀ (n + 1)) e,
    outs_take, outs_put]
  iintro ⟨Hg, ⟨Ho, Hrest⟩, HR⟩
  iapply (wp_pass d L _ _ _ _ _ _ fun b => step_out d L ids tab O W q (gOf t.val) b (outT L t b) (outT_inb L t b) (outT_eq L t b) f₀)
  isplitl [Hg Ho]
  · iapply (Entails.of_eq (deal d L ids tab f₀ q (gOf t.val) (gOf t.val)))
    isplitl [Hg] <;> iassumption
  isplitl [HR]; · iexact HR
  iintro ⟨HA, HR⟩
  iapply (wp_pass d L _ _ _ _ _ _ fun b => step_next d L ids tab hids O W q (gOf t.val) (gOf (t.val + 1)) b (k0_off3 L) (k0_off3_inb L)
    (lstT t b) (lstT_inb t b) (lstT_eq t b))
  isplitl [HA]; · iexact HA
  isplitl [HR]; · iexact HR
  iintro ⟨HA, HR⟩
  iapply (wpT_pure d L)
  ihave HA := (Entails.of_eq (deal d L ids tab (tgtF ids tab) q (gOf (t.val + 1)) (gOf t.val)).symm) $$ HA
  icases HA with ⟨Hg, Ho⟩
  isplitl [Hg]; · iexact Hg
  isplitr [HR]
  · isplitl [Ho] <;> iassumption
  · iexact HR

/-- A tile's program after its identifiers are in. -/
def rest (L : grid0.Coords) : Pg F L := do
  pass (fun b => opGather L b (lst0 b) (lst0_inb b)) (pure ⟨⟩)
  Scf.Loop.for k0_t1_loop k0_t1_ok ⟨⟩ fun t _ => trip L t
  pass (fun b => opGathered L b >>= fun _ => opStore L b (outE L b) (outE_inb L b)) <|
    pass (fun b => opStored L b (k0_off11 L) (k0_off11_inb L)) <| pure ⟨⟩

/-- What the buffers have at rest. -/
def idle (q : PosShare TreeShare) (b : Fin 10) : sProp 𝕄 :=
  iprop(res d L ids tab q b ∗ rowAny d L b ∗ semVal (gcell d L b) 0)

/-- From the buffers at rest and the output unwritten, to the buffers at rest and the output written. -/
theorem wp_rest (hids : ∀ j, (ids j).toNat < 100000) (q : PosShare TreeShare) (O : CellTallies nD τ sig (HIx 1)) (W : Waits sig (HIx 1)) :
    iprop((bigSep Finset.univ fun b => idle d L ids tab q b) ∗ (bigSep Finset.univ fun b => semVal (scell d L b) 0)
        ∗ outs d L ids tab f₀ 0 ∗ duty d L O W)
      ⊢ wpT d L (rest L) fun _ => iprop((bigSep Finset.univ fun b => idle d L ids tab q b) ∗ (bigSep Finset.univ fun b => semVal (scell d L b) 0)
        ∗ outs d L ids tab f₀ 10 ∗ duty d L O W) := by
  unfold rest
  show _ ⊢ wp frame _ _ (pass _ _ >>= fun _ => _) _
  rw [wp_bind]
  iintro ⟨HA, Hs, Ho, HR⟩
  iapply (wp_pass d L _ _ _ _ _ _ fun b => step_first d L ids tab hids (duty d L O W) q (gOf 0) b (lst0 b) (lst0_inb b) (lst0_eq b))
  isplitl [HA]; · iexact HA
  isplitl [HR]; · iexact HR
  iintro ⟨HA, HR⟩
  iapply (wpT_pure d L)
  iapply (Scf.wp_for_bind frame _ Set.univ _ _ _ k0_t1_ok ⟨⟩ (fun t _ => trip L t) (fun n _ => inv d L ids tab f₀ q O W n)
    (fun t _ => wp_trip d L ids tab f₀ hids q O W t)) $$ [HA Hs Ho HR]
  · unfold inv
    isplitl [HA Hs]
    · rw [bigSep_sep']
      isplitl [HA] <;> iassumption
    isplitl [Ho] <;> iassumption
  iintro %_ HI
  have e9 : inv d L ids tab f₀ q O W (Scf.trips k0_t1_loop.lb k0_t1_loop.ub k0_t1_loop.st) = inv d L ids tab f₀ q O W 9 :=
    congrArg _ trips_eq
  ihave HI := (Entails.of_eq e9) $$ HI
  unfold inv
  icases HI with ⟨Hg, Ho, HR⟩
  ihave Ho := (Entails.of_eq (show outs d L ids tab f₀ 9 = _ from outs_take d L ids tab f₀ (gOf 9))) $$ Ho
  icases Ho with ⟨Ho, Hrest⟩
  iapply (wp_pass d L _ _ _ _ _ _ fun b => step_out d L ids tab O W q (gOf 9) b (outE L b) (outE_inb L b) (outE_eq L b) f₀)
  isplitl [Hg Ho]
  · iapply (Entails.of_eq (deal d L ids tab f₀ q (gOf 9) (gOf 9)))
    isplitl [Hg] <;> iassumption
  isplitl [HR]; · iexact HR
  iintro ⟨HA, HR⟩
  iapply (wp_pass d L _ _ _ _ _ _ fun b => step_last d L ids tab O W q (gOf 9) b (k0_off11 L) (k0_off11_inb L))
  isplitl [HA]; · iexact HA
  isplitl [HR]; · iexact HR
  iintro ⟨HA, HR⟩
  iapply (wpT_pure d L)
  have ecollect : (bigSep Finset.univ fun b => iprop(res d L ids tab q b ∗ semVal (gcell d L b) 0 ∗ rowAny d L b ∗ semVal (scell d L b) 0
        ∗ blk d L (tgtF ids tab) (gOf 9) b) : sProp 𝕄)
      = iprop((bigSep Finset.univ fun b => res d L ids tab q b) ∗ (bigSep Finset.univ fun b => semVal (gcell d L b) 0)
          ∗ (bigSep Finset.univ fun b => rowAny d L b) ∗ (bigSep Finset.univ fun b => semVal (scell d L b) 0)
          ∗ grp d L (tgtF ids tab) (gOf 9)) := by
    unfold grp; simp only [bigSep_sep']
  ihave HA := (Entails.of_eq ecollect) $$ HA
  icases HA with ⟨Hres, Hgs, Hrow, Hss, Ho⟩
  isplitl [Hres Hgs Hrow]
  · unfold idle
    simp only [bigSep_sep']
    isplitl [Hres]; · iexact Hres
    isplitl [Hrow]; · iexact Hrow
    iexact Hgs
  isplitl [Hss]; · iexact Hss
  isplitr [HR]
  · iapply (Entails.of_eq (show _ = outs d L ids tab f₀ 10 from (outs_put d L ids tab f₀ (gOf 9)).symm))
    isplitl [Ho] <;> iassumption
  · iexact HR

end Run

end Cert.Proof.Emb

end
-- ==== Proof.Body.lean ====
/-
  A tile's whole program: what the launch hands it split among its buffers, its identifiers fetched, the passes, and
  what it hands back.
-/
module

public import proofs.«01_k».proof.Proof.Tile
public import Idealize.ShloMosaic.Lib.Ring

@[expose] public section

noncomputable section

namespace Cert.Proof.Emb

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The output's columns: a tile's, and the blocks they are made of -/

/-- The elements of the output that tile `w` writes: the sentences from `128 * w` on. -/
def cols (w : ℕ) : Finset S50x4096x128.Idx := Finset.univ.filter fun x => (x 1).val / 128 = w

/-- An index is among a tile's columns when its sentence is. -/
theorem mem_cols {w : ℕ} {x : S50x4096x128.Idx} : x ∈ cols w ↔ (x 1).val / 128 = w := by simp [cols]

/-- Which indices one block of the output holds. -/
theorem mem_piece {L : grid0.Coords} {g b : Fin 10} {x : S50x4096x128.Idx} :
    x ∈ piece L g b ↔ (x 0).val = 5 * g.val + b.val / 2 ∧ (x 1).val / 128 = (wid L).val ∧ (x 1).val % 128 / 64 = b.val % 2 := by
  have e : piece L g b = (Rect.unit (s := S50x4096x128) (oOff L g b) S1x64x128.size (oOff_inb L g b)).set := by
    show (((oV).view.slice (Rect.unit (s := S50x4096x128) (oOff L g b) S1x64x128.size (oOff_inb L g b))).reshape S64x128
      squeezes_S1x64x128_S64x128.numel_eq).set = _
    rw [View.set_reshape, View.set_slice]; exact Finset.map_refl
  rw [e, Rect.mem_set_unit]
  have hw : (wid L).val = 2 * (L 1).val + (L 0).val := rfl
  have h2 : (x 2).val < 128 := (x 2).isLt
  constructor
  · intro h
    have h0 : 5 * g.val + b.val / 2 ≤ (x 0).val ∧ (x 0).val < 5 * g.val + b.val / 2 + 1 := h 0
    have h1 : 256 * (L 1).val + 128 * (L 0).val + 64 * (b.val % 2) ≤ (x 1).val
      ∧ (x 1).val < 256 * (L 1).val + 128 * (L 0).val + 64 * (b.val % 2) + 64 := h 1
    omega
  · rintro ⟨h0, h1, h3⟩ a
    match a with
    | 0 => show 5 * g.val + b.val / 2 ≤ (x 0).val ∧ (x 0).val < 5 * g.val + b.val / 2 + 1; omega
    | 1 =>
      show 256 * (L 1).val + 128 * (L 0).val + 64 * (b.val % 2) ≤ (x 1).val
        ∧ (x 1).val < 256 * (L 1).val + 128 * (L 0).val + 64 * (b.val % 2) + 64
      omega
    | 2 => show 0 ≤ (x 2).val ∧ (x 2).val < 0 + 128; omega

/-- The elements of a group. -/
def grpSet (L : grid0.Coords) (g : Fin 10) : Finset S50x4096x128.Idx := Finset.univ.biUnion fun b => piece L g b

/-- A group's ten blocks are disjoint. -/
theorem piece_disjoint (L : grid0.Coords) (g : Fin 10) :
    ∀ b ∈ (Finset.univ : Finset (Fin 10)), ∀ b' ∈ (Finset.univ : Finset (Fin 10)), b ≠ b' → Disjoint (piece L g b) (piece L g b') := by
  intro b _ b' _ hne
  refine Finset.disjoint_left.mpr fun x h h' => hne (Fin.ext ?_)
  have h := mem_piece.mp h
  have h' := mem_piece.mp h'
  omega

/-- Which indices a group of ten blocks holds. -/
theorem mem_grpSet {L : grid0.Coords} {g : Fin 10} {x : S50x4096x128.Idx} :
    x ∈ grpSet L g ↔ (x 0).val / 5 = g.val ∧ (x 1).val / 128 = (wid L).val := by
  unfold grpSet
  rw [Finset.mem_biUnion]
  constructor
  · rintro ⟨b, _, h⟩
    have h := mem_piece.mp h
    omega
  · rintro ⟨h0, h1⟩
    refine ⟨⟨2 * ((x 0).val % 5) + (x 1).val % 128 / 64, by omega⟩, Finset.mem_univ _, mem_piece.mpr ⟨?_, h1, ?_⟩⟩
    · show (x 0).val = 5 * g.val + (2 * ((x 0).val % 5) + (x 1).val % 128 / 64) / 2; omega
    · show (x 1).val % 128 / 64 = (2 * ((x 0).val % 5) + (x 1).val % 128 / 64) % 2; omega

/-- A tile's ten groups are disjoint. -/
theorem grpSet_disjoint (L : grid0.Coords) :
    ∀ g ∈ (Finset.univ : Finset (Fin 10)), ∀ g' ∈ (Finset.univ : Finset (Fin 10)), g ≠ g' → Disjoint (grpSet L g) (grpSet L g') := by
  intro g _ g' _ hne
  refine Finset.disjoint_left.mpr fun x h h' => hne (Fin.ext ?_)
  have h := mem_grpSet.mp h
  have h' := mem_grpSet.mp h'
  omega

/-- A tile's ten groups make up its columns. -/
theorem cols_eq (L : grid0.Coords) : cols (wid L).val = Finset.univ.biUnion fun g => grpSet L g := by
  ext x
  rw [mem_cols, Finset.mem_biUnion]
  constructor
  · intro h
    have h0 : (x 0).val < 50 := (x 0).isLt
    exact ⟨⟨(x 0).val / 5, by omega⟩, Finset.mem_univ _, mem_grpSet.mpr ⟨rfl, h⟩⟩
  · rintro ⟨g, _, h⟩
    exact (mem_grpSet.mp h).2

section Geometry

variable (d : Dev nD) (L : grid0.Coords)

/-- A tile's columns at one contents are its hundred blocks at it. -/
theorem cols_split (f : S50x4096x128.Idx → Elt F .f32) :
    ((oV).view.loc (thr d L) ↦[cols (wid L).val]{fullShare} f : sProp 𝕄) = bigSep Finset.univ fun g => grp d L f g := by
  rw [cols_eq, pointsTo_biUnion Finset.univ _ (grpSet_disjoint L)]
  refine bigSep_congr fun g _ => ?_
  unfold grpSet grp blk
  rw [pointsTo_biUnion Finset.univ _ (piece_disjoint L g)]

/-- The tile's columns before any group is done. -/
theorem outs_zero (ids : S32x50x128.Idx → Elt F .i32) (tab : S100000x128.Idx → Elt F .f32) (f₀ : S50x4096x128.Idx → Elt F .f32) :
    (outs d L ids tab f₀ 0 : sProp 𝕄) = (oV).view.loc (thr d L) ↦[cols (wid L).val]{fullShare} f₀ := by
  rw [cols_split]; unfold outs; simp only [mix_zero]
/-- The tile's columns when every group is done. -/
theorem outs_ten (ids : S32x50x128.Idx → Elt F .i32) (tab : S100000x128.Idx → Elt F .f32) (f₀ : S50x4096x128.Idx → Elt F .f32) :
    (outs d L ids tab f₀ 10 : sProp 𝕄) = (oV).view.loc (thr d L) ↦[cols (wid L).val]{fullShare} tgtF ids tab := by
  rw [cols_split]; unfold outs; simp only [mix_ten]

/-! ## The row buffers -/

/-- Which indices row buffer `b` holds. -/
theorem mem_rowSet {b : Fin 10} {x : S10x64x128.Idx} : x ∈ (rowK b).view.set ↔ (x 0).val = b.val := by
  have e : (rowK b).view.set = (Rect.unit (s := S10x64x128) ![b.val, 0, 0] S1x64x128.size (rowK_inb b)).set := by
    show (((rV).view.slice (Rect.unit (s := S10x64x128) ![b.val, 0, 0] S1x64x128.size (rowK_inb b))).reshape S64x128
      squeezes_S1x64x128_S64x128.numel_eq).set = _
    rw [View.set_reshape, View.set_slice]; exact Finset.map_refl
  rw [e, Rect.mem_set_unit]
  have h1 : (x 1).val < 64 := (x 1).isLt
  have h2 : (x 2).val < 128 := (x 2).isLt
  constructor
  · intro h
    have h0 : b.val ≤ (x 0).val ∧ (x 0).val < b.val + 1 := h 0
    omega
  · intro h0 a
    match a with
    | 0 => show b.val ≤ (x 0).val ∧ (x 0).val < b.val + 1; omega
    | 1 => show 0 ≤ (x 1).val ∧ (x 1).val < 0 + 64; omega
    | 2 => show 0 ≤ (x 2).val ∧ (x 2).val < 0 + 128; omega

/-- The ten row buffers are disjoint. -/
theorem rowSet_disjoint :
    ∀ b ∈ (Finset.univ : Finset (Fin 10)), ∀ b' ∈ (Finset.univ : Finset (Fin 10)), b ≠ b' → Disjoint (rowK b).view.set (rowK b').view.set := by
  intro b _ b' _ hne
  refine Finset.disjoint_left.mpr fun x h h' => hne (Fin.ext ?_)
  exact (mem_rowSet.mp h).symm.trans (mem_rowSet.mp h')

/-- The ten row buffers make up the scratch array. -/
theorem rowSet_cover : (Finset.univ : Finset (Fin 10)).biUnion (fun b => (rowK b).view.set) = (Finset.univ : Finset S10x64x128.Idx) := by
  ext x
  rw [Finset.mem_biUnion]
  exact ⟨fun _ => Finset.mem_univ _, fun _ => ⟨x 0, Finset.mem_univ _, mem_rowSet.mpr rfl⟩⟩

/-- The row scratch, split into the ten buffers, -/
theorem rows_split (f : Buf (Elt F) ((rV).view.loc (thr d L))) :
    ((rV).view.loc (thr d L) ↦{fullShare} f : sProp 𝕄) ⊢ bigSep Finset.univ fun b => rowAny d L b := by
  have e : ((rV).view.loc (thr d L) ↦{fullShare} f : sProp 𝕄)
      = bigSep Finset.univ fun b : Fin 10 => (rV).view.loc (thr d L) ↦[(rowK b).view.set]{fullShare} f := by
    rw [← pointsTo_biUnion Finset.univ (ℓ := (rV).view.loc (thr d L)) (fun b : Fin 10 => (rowK b).view.set) rowSet_disjoint]
    exact congrArg (fun I => ((rV).view.loc (thr d L) ↦[I]{fullShare} f : sProp 𝕄)) rowSet_cover.symm
  rw [e]
  exact bigSep_mono fun b _ => exists_intro (PROP := sProp 𝕄) (Φ := fun f => (rV).view.loc (thr d L) ↦[(rowK b).view.set]{fullShare} f) f

/-- and joined again. -/
theorem rows_join (f₀ : Buf (Elt F) ((rV).view.loc (thr d L))) :
    (bigSep Finset.univ fun b => rowAny d L b : sProp 𝕄) ⊢ iprop(∃ f, (rV).view.loc (thr d L) ↦{fullShare} f) :=
  Ring.pointsTo_blocks_join_exists (ℓ := (rV).view.loc (thr d L)) (fun b : Fin 10 => (rowK b).view.set)
    (fun b b' h => rowSet_disjoint b (Finset.mem_univ b) b' (Finset.mem_univ b') h) rowSet_cover f₀

/-! ## The shares the buffers hold -/

/-- The table seen whole holds every index. -/
theorem set_tabK : (tabK).view.set = (Finset.univ : Finset S100000x128.Idx) :=
  Finset.eq_univ_iff_forall.mpr fun x => (emb_tabK x) ▸ (tabK).view.emb_mem_set x

/-- A read share dealt out over the ten row buffers. -/
theorem deal_ten {ℓ : Loc nD τ sig} (S : Finset (Idx ℓ)) (q : PosShare TreeShare) (f : Buf (Elt F) ℓ) :
    (ℓ ↦[S]{q} f : sProp 𝕄) = bigSep Finset.univ fun b : Fin 10 => ℓ ↦[S]{shareB q b} f :=
  Transfers.pointsTo_deal (Finset.univ : Finset (Fin 10)) ⟨0, Finset.mem_univ _⟩ q

/-- The table's read share dealt out over the ten row buffers. -/
theorem deal_tab (tab : S100000x128.Idx → Elt F .f32) (q : PosShare TreeShare) :
    ((xV).view.loc (thr d L) ↦{q} tab : sProp 𝕄)
      = bigSep Finset.univ fun b : Fin 10 => (tabK).view.loc (thr d L) ↦[(tabK).view.set]{shareB q b} tab := by
  rw [deal_ten]
  exact congrArg (fun I => (bigSep Finset.univ fun b : Fin 10 => (xV).view.loc (thr d L) ↦[I]{shareB q b} tab : sProp 𝕄)) set_tabK.symm

/-- A share of the table and the fetched identifiers, dealt among the ten buffers. -/
theorem res_split (ids : S32x50x128.Idx → Elt F .i32) (tab : S100000x128.Idx → Elt F .f32) (q : PosShare TreeShare) :
    (iprop(((xV).view.loc (thr d L) ↦{q} tab) ∗ ((sV).view.loc (thr d L) ↦{fullShare} idxF L ids)) : sProp 𝕄)
      = bigSep Finset.univ fun b => res d L ids tab q b := by
  unfold res
  rw [bigSep_sep', ← deal_tab d L tab q]
  exact congrArg (fun A => iprop(((xV).view.loc (thr d L) ↦{q} tab) ∗ A)) (deal_ten _ _ _)

end Geometry

/-! ## The tile's program -/

section Whole

variable [FloatOps F] (d : Dev nD) (L : grid0.Coords)
variable (ids : S32x50x128.Idx → Elt F .i32) (tab : S100000x128.Idx → Elt F .f32)

/-- What the launch hands a tile: a share of the identifiers and one of the table, and its own columns of the output. -/
def held (q : PosShare TreeShare) (f : S50x4096x128.Idx → Elt F .f32) : sProp 𝕄 :=
  iprop(((iV).view.loc (thr d L) ↦{q} ids) ∗ ((xV).view.loc (thr d L) ↦{q} tab)
    ∗ ((oV).view.loc (thr d L) ↦[cols (wid L).val]{fullShare} f))

/-- A scratch buffer, whatever it holds. -/
abbrev someBuf (b : Ref sig .scVector) : sProp 𝕄 := iprop(∃ f : Buf (Elt F) ((thr d L).loc b), (thr d L).loc b ↦{fullShare} f)

/-- The cell of the fetch. -/
abbrev fcell : GSem nD τ sig := (thr d L, .dma cc0_scoped0.sem)

/-- The tile's scratch and its semaphores, at rest. -/
def atRest : sProp 𝕄 :=
  iprop(someBuf d L cc0_scratch0 ∗ someBuf d L cc0_scratch1 ∗ semVal (fcell d L) 0
    ∗ (bigSep Finset.univ fun b => semVal (gcell d L b) 0) ∗ bigSep Finset.univ fun b => semVal (scell d L b) 0)

/-- The tile's program is its fetch of the identifiers, then the passes. -/
theorem canon_eq : canon (F := F) L
    = .op (.enqueueDma (idsK L) (.here sV) (.dma cc0_scoped0.sem) ((View.wordExact_bits rfl).reshape _ _) (Memref.isWhole_whole _).wordExact ⟨Or.inl rfl, trivial⟩)
        fun _ => .op (.waitDma2 cc0_scoped0.sem (idsK L) sV ((View.wordExact_bits rfl).reshape _ _) (Memref.isWhole_whole _).wordExact) fun _ => rest L := rfl

/-- The fetch leaves the tile's row of the identifiers in its scratch. -/
theorem fetched (fs : Buf (Elt F) ((sV).view.loc (thr d L))) :
    (sV).view.write (Elt F) fs ((idsK L).view.read (Elt F) ids) Finset.univ = idxF L ids := by
  rw [read_idsK]; exact View.write_whole_univ _ _ _

/-- The whole program: from the output's columns unwritten to the columns written, the rest as it was. -/
theorem wp_canon (hids : ∀ j, (ids j).toNat < 100000) (q : PosShare TreeShare) (f₀ : S50x4096x128.Idx → Elt F .f32)
    (O : CellTallies nD τ sig (HIx 1)) (W : Waits sig (HIx 1)) :
    iprop(held d L ids tab q f₀ ∗ atRest d L ∗ duty d L O W)
      ⊢ wpT d L (canon L) fun _ => iprop(held d L ids tab q (tgtF ids tab) ∗ atRest d L ∗ duty d L O W) := by
  rw [canon_eq]
  unfold held atRest
  conv_lhs => unfold duty
  iintro ⟨⟨Hi, Hx, Ho⟩, ⟨⟨%fs, Hs⟩, ⟨%fr, Hr⟩, Hf, Hg, Hst⟩, #Hmw, %W', %hW', HO⟩
  ihave Hi := (pointsTo_split_subset (ℓ := (iV).view.loc (thr d L)) (q := q) (f := ids) (S := Finset.univ) (Finset.subset_univ (idsK L).view.set)).1 $$ Hi
  icases Hi with ⟨Hi, Hi'⟩
  iapply (Transfers.wp_dmaLocal countersEmb 𝒱₀ (thr d L) none (default : HIx 1) (sV).view.dmaCredit
    (rfl : (sV).view.amount (.dma cc0_scoped0.sem) = _) (by decide) (Finset.subset_univ _)) $$ [Hi Hs Hf]
  · isplitl [Hi]; · iexact Hi
    isplitl [Hs]; · iexact Hs
    iexact Hf
  iintro Hfl
  iapply (Transfers.wp_waitLocalO countersEmb 𝒱₀ (thr d L) none (default : HIx 1) (rfl : (sV).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hs, Hi⟩, Hf, HO⟩
  ihave Hi := (pointsTo_split_subset (ℓ := (iV).view.loc (thr d L)) (q := q) (f := ids) (S := Finset.univ) (Finset.subset_univ (idsK L).view.set)).2 $$ [Hi Hi']
  · isplitl [Hi] <;> iassumption
  ihave Hs := (Entails.of_eq (congrArg (fun f => ((sV).view.loc (thr d L) ↦{fullShare} f : sProp 𝕄)) (fetched d L ids fs))) $$ Hs
  ihave HR := (Entails.of_eq (res_split d L ids tab q)) $$ [Hx Hs]
  · isplitl [Hx] <;> iassumption
  ihave Hrows := (rows_split d L fr) $$ Hr
  ihave Ho := (Entails.of_eq (outs_zero d L ids tab f₀).symm) $$ Ho
  ihave Hd := (duty_insert d L O W W' (.dma cc0_scoped0.sem) hW') $$ [HO]
  · isplitr; · iexact Hmw
    iexact HO
  iapply (wp_wand_r frame)
  isplitl [HR Hrows Hg Hst Ho Hd]
  · iapply (wp_rest d L ids tab f₀ hids q O W)
    isplitl [HR Hrows Hg]
    · unfold idle; rw [bigSep_sep', bigSep_sep']
      isplitl [HR]; · iexact HR
      isplitl [Hrows] <;> iassumption
    isplitl [Hst]; · iexact Hst
    isplitl [Ho] <;> iassumption
  iintro %_ ⟨HA, Hst, Ho, Hd⟩
  ihave HA := (Entails.of_eq (show (bigSep Finset.univ fun b => idle d L ids tab q b) = iprop((bigSep Finset.univ fun b => res d L ids tab q b)
    ∗ (bigSep Finset.univ fun b => rowAny d L b) ∗ bigSep Finset.univ fun b => semVal (gcell d L b) 0) by
      unfold idle; rw [bigSep_sep', bigSep_sep'])) $$ HA
  icases HA with ⟨HR, Hrows, Hg⟩
  ihave HR := (Entails.of_eq (res_split d L ids tab q).symm) $$ HR
  icases HR with ⟨Hx, Hs⟩
  ihave Hr := (rows_join d L fr) $$ Hrows
  ihave Ho := (Entails.of_eq (outs_ten d L ids tab f₀)) $$ Ho
  isplitl [Hi Hx Ho]
  · isplitl [Hi]; · iexact Hi
    isplitl [Hx] <;> iassumption
  isplitr [Hd]
  · isplitl [Hs]; · iexists _; iexact Hs
    isplitl [Hr]; · iexact Hr
    isplitl [Hf]; · iexact Hf
    isplitl [Hg] <;> iassumption
  iexact Hd

end Whole

/-! ## The tile's own buffers and semaphores -/

section Own

variable (d : Dev nD) (L : grid0.Coords)

/-- The gather counters are distinct. -/
theorem gcell_inj : Set.InjOn (gcell d L) (Finset.univ : Finset (Fin 10)) := by
  have h : ∀ b b', gsem b = gsem b' → b = b' := by decide
  intro b _ b' _ e
  exact h b b' (SemLoc.dma.inj (Prod.mk.inj e).2)
/-- The store counters are distinct. -/
theorem scell_inj : Set.InjOn (scell d L) (Finset.univ : Finset (Fin 10)) := by
  have h : ∀ b b', ssem b = ssem b' → b = b' := by decide
  intro b _ b' _ e
  exact h b b' (SemLoc.dma.inj (Prod.mk.inj e).2)

/-- The fetch's counter is the tile's own. -/
theorem own_fcell : fcell d L ∈ ownCells (thr d L) :=
  mem_ownCells.mpr ⟨rfl, show (SemLoc.dma cc0_scoped0.sem : SemLoc sig).isScoped .scVector = true by decide⟩
/-- So is each gather counter, and it is not the fetch's. -/
theorem own_gcell (b : Fin 10) : gcell d L b ∈ (ownCells (thr d L)).erase (fcell d L) := by
  have h : ∀ b, (SemLoc.dma (gsem b) : SemLoc sig).isScoped .scVector = true := by decide
  have h' : ∀ b, gsem b ≠ cc0_scoped0.sem := by decide
  exact Finset.mem_erase.mpr ⟨fun e => h' b (SemLoc.dma.inj (Prod.mk.inj e).2), mem_ownCells.mpr ⟨rfl, h b⟩⟩
/-- So is each store counter, and it is neither the fetch's nor a gather's. -/
theorem own_scell (b : Fin 10) : scell d L b ∈ (ownCells (thr d L)).erase (fcell d L) \ Finset.univ.image (gcell d L) := by
  have h : ∀ b, (SemLoc.dma (ssem b) : SemLoc sig).isScoped .scVector = true := by decide
  have h' : ∀ b, ssem b ≠ cc0_scoped0.sem := by decide
  have h'' : ∀ b b', gsem b' ≠ ssem b := by decide
  refine Finset.mem_sdiff.mpr ⟨Finset.mem_erase.mpr ⟨fun e => h' b (SemLoc.dma.inj (Prod.mk.inj e).2), mem_ownCells.mpr ⟨rfl, h b⟩⟩, fun hm => ?_⟩
  obtain ⟨b', _, e⟩ := Finset.mem_image.mp hm
  exact h'' b b' (SemLoc.dma.inj (Prod.mk.inj e).2)

/-- A one-to-one family of a set's members, and the rest of the set. -/
theorem bigSep_family {I : Type} [DecidableEq I] {s : Finset I} {f : Fin 10 → I} (inj : Set.InjOn f (Finset.univ : Finset (Fin 10)))
    (mem : ∀ b, f b ∈ s) (Φ : I → sProp 𝕄) :
    bigSep s Φ = iprop((bigSep Finset.univ fun b => Φ (f b)) ∗ bigSep (s \ Finset.univ.image f) Φ) := by
  have hsub : Finset.univ.image f ⊆ s := by
    intro x hx
    obtain ⟨b, _, rfl⟩ := Finset.mem_image.mp hx
    exact mem b
  rw [SparseCore.bigSep_sdiff_split' hsub, SparseCore.bigSep_image_of_injOn inj]

/-- The cells of the tile that its program does not use. -/
def spare : sProp 𝕄 :=
  bigSep (((ownCells (thr d L)).erase (fcell d L) \ Finset.univ.image (gcell d L)) \ Finset.univ.image (scell d L)) fun g => semVal g 0

/-- The tile's counters at zero: the fetch's, the gathers', the stores' and the others. -/
theorem ownSems0_tile :
    (ownSems0 (thr d L) : sProp 𝕄) = iprop(semVal (fcell d L) 0 ∗ (bigSep Finset.univ fun b => semVal (gcell d L b) 0)
      ∗ (bigSep Finset.univ fun b => semVal (scell d L b) 0) ∗ spare d L) := by
  unfold SparseCore.Cfg.ownSems0 spare
  rw [SparseCore.bigSep_erase' (own_fcell d L), bigSep_family (gcell_inj d L) (own_gcell d L),
    bigSep_family (scell_inj d L) (own_scell d L)]

/-- The buffers of the tile that its program does not use. -/
def others : sProp 𝕄 :=
  bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f)

/-- The tile's buffers: the identifiers', the rows' and the others. -/
theorem ownBufs_tile : (ownBufs (thr d L) : sProp 𝕄) = iprop(someBuf d L cc0_scratch0 ∗ someBuf d L cc0_scratch1 ∗ others d L) := by
  have h : (cc0_scratch1 : Ref sig .scVector) ≠ cc0_scratch0 := by decide
  unfold SparseCore.Cfg.ownBufs others
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) h,
    SparseCore.Cfg.mem_ownRefs_of_owner (p := Proc.scVector (cV L) (jV L)) (b := (Proc.scVector (cV L) (jV L)).devRef cc0_scratch1) rfl⟩)]

variable [FloatOps F]

/-- The printed body on the tile at `L`, from what the launch hands it and its own scratch. -/
theorem tile_body (hF : (K (F := F)).Facts) (ids : S32x50x128.Idx → Elt F .i32) (tab : S100000x128.Idx → Elt F .f32)
    (hids : ∀ j, (ids j).toNat < 100000) (q : PosShare TreeShare) (f₀ : S50x4096x128.Idx → Elt F .f32)
    (O : CellTallies nD τ sig (HIx 1)) (W : Waits sig (HIx 1)) (hO : ∀ g, O g none = 0) :
    iprop(levAts (K (F := F)).L (K (F := F)).lev ∗ emp ∗ held d L ids tab q f₀
        ∗ scopedBufs (thr d L) ∗ scopedSems0 (thr d L) ∗ owes (thr d L) O W)
      ⊢ wpT d L (bodyK L) fun _ => iprop(held d L ids tab q (tgtF ids tab)
        ∗ scopedBufs (thr d L) ∗ scopedSems0 (thr d L) ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), ownSems0_tile, ownBufs_tile]
  iintro ⟨#Hlv, -, Hh, ⟨Hs, Hr, Hbufs⟩, ⟨Hf, Hg, Hst, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame)
  isplitl [Hh Hs Hr Hf Hg Hst HO Hmw]
  · iapply (wp_canon d L ids tab hids q f₀ O W)
    isplitl [Hh]; · iexact Hh
    isplitl [Hs Hr Hf Hg Hst]
    · unfold atRest
      isplitl [Hs]; · iexact Hs
      isplitl [Hr]; · iexact Hr
      isplitl [Hf]; · iexact Hf
      isplitl [Hg] <;> iassumption
    unfold duty
    isplitl [Hmw]; · iexact Hmw
    iexists W; isplitr
    · ipureintro; exact fun p hp => .inl hp
    · iexact HO
  iintro %_ ⟨Hh, Ha, Hd⟩
  unfold atRest duty
  icases Ha with ⟨Hs, Hr, Hf, Hg, Hst⟩
  icases Hd with ⟨-, Hd⟩
  isplitl [Hh]; · iexact Hh
  isplitl [Hs Hr Hbufs]
  · isplitl [Hs]; · iexact Hs
    isplitl [Hr] <;> iassumption
  isplitr [Hd]
  · isplitl [Hf]; · iexact Hf
    isplitl [Hg]; · iexact Hg
    isplitl [Hst] <;> iassumption
  iexact Hd

end Own

end Cert.Proof.Emb

end
-- ==== Proof.Launch.lean ====
/-
  The kernel's launch: how the arrays are dealt out among the SparseCores and their tiles and gathered back, the host's
  operations around the call, and the run of the whole program.
-/
module

public import proofs.«01_k».proof.Proof.Body

@[expose] public section

noncomputable section

namespace Cert.Proof.Emb

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Where the handshakes' ghost state sits. -/
abbrev EH : Emb UH (MT nD τ sig (HIx 1) (Elt F) ℕ UU ℕ) := embL

/-- The call runs on sixteen tiles of each SparseCore. -/
theorem nSub_zero : (K (F := F)).nSub 0 = 16 := rfl
/-- The call runs on two SparseCores. -/
theorem nCore_zero : (K (F := F)).nCore 0 = 2 := rfl

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays and their contents -/

/-- The array of the TensorCore's reference `b`. -/
abbrev hb (d : Dev nD) (b : Ref sig .tc) : Loc nD τ sig := (SparseCore.T d).loc b

section Contents

variable (m : (ℓ : Loc nD τ sig) → Buf (Elt F) ℓ) (d : Dev nD)

/-- The identifiers cut into 32 runs of 128 sentences; -/
def idsA : S32x128x50.Idx → Elt F .i32 := shapeCast S32x128x50 (m (hb d main_arg0)) shapeCasts_S4096x50_S32x128x50
/-- and each run with its words before its sentences, as the kernel takes them. -/
def idsB : S32x50x128.Idx → Elt F .i32 := transpose S32x50x128 [0, 2, 1] (idsA m d) transposes_S32x128x50_S32x50x128_0_2_1
/-- The table. -/
abbrev tabB : S100000x128.Idx → Elt F .f32 := m (hb d main_arg1)
/-- What the kernel leaves in its output; -/
def outB : S50x4096x128.Idx → Elt F .f32 := tgtF (idsB m d) (tabB m d)
/-- and the program's result. -/
def resB : S4096x50x128.Idx → Elt F .f32 := transpose S4096x50x128 [1, 0, 2] (outB m d) transposes_S50x4096x128_S4096x50x128_1_0_2

/-- What the run asks of the launch memory: every identifier names a row of the table. -/
def PreOK : Prop := ∀ (d : Dev nD) (j : S4096x50.Idx), (m (hb d main_arg0) j).toNat < 100000

/-- The identifiers in the order the kernel reads them are row numbers too. -/
theorem idsB_lt (h : PreOK m) (j : S32x50x128.Idx) : (idsB m d j).toNat < 100000 := h d _

/-! ## What the handshakes carry -/

/-- A share of the identifiers and of the table, and a part of the output at some contents. -/
abbrev lent (q : PosShare TreeShare) (S : Finset S50x4096x128.Idx) (f : S50x4096x128.Idx → Elt F .f32) : sProp 𝕄 :=
  iprop((hb d main_v1 ↦{q} idsB m d) ∗ (hb d main_arg1 ↦{q} tabB m d) ∗ (hb d main_v2 ↦[S]{fullShare} f))

/-- It divides among any number of takers whose parts of the output make up the whole part. -/
theorem lent_split {n : ℕ} [NeZero n] (q : PosShare TreeShare) (S : Finset S50x4096x128.Idx) (f : S50x4096x128.Idx → Elt F .f32)
    (J : Fin n → Finset S50x4096x128.Idx) (hJ : ∀ i i', i ≠ i' → Disjoint (J i) (J i')) (hS : S = Finset.univ.biUnion J) :
    lent m d q S f = bigSep Finset.univ fun i => lent m d (Transfers.dealOf q Finset.univ i) (J i) f := by
  have hn : (Finset.univ : Finset (Fin n)).Nonempty := ⟨0, Finset.mem_univ _⟩
  rw [bigSep_sep', bigSep_sep', ← Transfers.pointsTo_deal (ℓ := hb d main_v1) (Finset.univ : Finset (Fin n)) hn q,
    ← Transfers.pointsTo_deal (ℓ := hb d main_arg1) (Finset.univ : Finset (Fin n)) hn q,
    ← pointsTo_biUnion Finset.univ (ℓ := hb d main_v2) J fun i _ i' _ h => hJ i i' h]
  exact congrArg (fun I => iprop((hb d main_v1 ↦{q} idsB m d) ∗ (hb d main_arg1 ↦{q} tabB m d) ∗ (hb d main_v2 ↦[I]{fullShare} f))) hS

/-- The columns of SparseCore `c`'s tiles: the tiles are numbered across the cores, core first. -/
def ccols (c : Fin 2) : Finset S50x4096x128.Idx := Finset.univ.biUnion fun i : Fin 16 => cols (2 * i.val + c.val)

/-- An index is among a SparseCore's columns when its tile's number has the SparseCore's parity. -/
theorem mem_ccols {c : Fin 2} {x : S50x4096x128.Idx} : x ∈ ccols c ↔ (x 1).val / 128 % 2 = c.val := by
  unfold ccols
  rw [Finset.mem_biUnion]
  constructor
  · rintro ⟨i, _, h⟩
    have h := mem_cols.mp h
    omega
  · intro h
    have h1 : (x 1).val < 4096 := (x 1).isLt
    refine ⟨⟨(x 1).val / 128 / 2, by omega⟩, Finset.mem_univ _, mem_cols.mpr ?_⟩
    show (x 1).val / 128 = 2 * ((x 1).val / 128 / 2) + c.val
    omega

/-- The share of core `c`, and that of its tile `i`. -/
abbrev shareC (c : Fin 2) : PosShare TreeShare := Transfers.dealOf fullShare Finset.univ c
/-- The read share of tile `i` of SparseCore `c`. -/
abbrev shareT (c : Fin 2) (i : Fin 16) : PosShare TreeShare := Transfers.dealOf (shareC c) Finset.univ i

/-- What the call is lent, split between the SparseCores. -/
theorem lent_cores (f : S50x4096x128.Idx → Elt F .f32) :
    lent m d fullShare Finset.univ f = bigSep Finset.univ fun c : Fin 2 => lent m d (shareC c) (ccols c) f := by
  refine lent_split m d fullShare Finset.univ f ccols (fun c c' hne => Finset.disjoint_left.mpr fun x h h' => hne (Fin.ext ?_)) ?_
  · exact (mem_ccols.mp h).symm.trans (mem_ccols.mp h')
  · ext x
    refine ⟨fun _ => Finset.mem_biUnion.mpr ⟨⟨(x 1).val / 128 % 2, by omega⟩, Finset.mem_univ _, mem_ccols.mpr rfl⟩, fun _ => Finset.mem_univ _⟩

/-- A SparseCore's part, split among its tiles. -/
theorem lent_tiles (c : Fin 2) (f : S50x4096x128.Idx → Elt F .f32) :
    lent m d (shareC c) (ccols c) f = bigSep Finset.univ fun i : Fin 16 => lent m d (shareT c i) (cols (2 * i.val + c.val)) f := by
  refine lent_split m d (shareC c) (ccols c) f (fun i => cols (2 * i.val + c.val))
    (fun i i' hne => Finset.disjoint_left.mpr fun x h h' => hne (Fin.ext ?_)) rfl
  have h := mem_cols.mp h
  have h' := mem_cols.mp h'
  omega

end Contents

section Run

variable [FloatOps F] (m : (ℓ : Loc nD τ sig) → Buf (Elt F) ℓ) (ρ : Dev nD → PrngReg)

/-- The call's SparseCore as one of two. -/
abbrev coreOf (c : Fin ((K (F := F)).nCore 0)) : Fin 2 := Fin.cast nCore_zero c
/-- The call's tile as one of sixteen. -/
abbrev tileOf (i : Fin ((K (F := F)).nSub 0)) : Fin 16 := Fin.cast nSub_zero i

/-- Each core takes its share and its tiles' columns, each tile its own; they bring them back with the columns written. -/
def P : (K (F := F)).Pay (nD := nD) (Val := Elt F) (Name := ℕ) (U := UU) where
  st := fun q d c => match q with | 0 => lent m d (shareC (coreOf (F := F) c)) (ccols (coreOf (F := F) c)) (m (hb d main_v2))
  dn := fun q d c => match q with | 0 => lent m d (shareC (coreOf (F := F) c)) (ccols (coreOf (F := F) c)) (outB m d)
  go := fun q d c i => match q with
    | 0 => lent m d (shareT (coreOf (F := F) c) (tileOf (F := F) i)) (cols (2 * (tileOf (F := F) i).val + (coreOf (F := F) c).val)) (m (hb d main_v2))
  td := fun q d c i => match q with
    | 0 => lent m d (shareT (coreOf (F := F) c) (tileOf (F := F) i)) (cols (2 * (tileOf (F := F) i).val + (coreOf (F := F) c).val)) (outB m d)
  x := fun _ _ => iprop(emp)

instance lent_storable (d : Dev nD) (q : PosShare TreeShare) (S : Finset S50x4096x128.Idx) (f : S50x4096x128.Idx → Elt F .f32) :
    BI.Storable (upEmb : UEmb _ 𝕄) (lent m d q S f) := inferInstance

instance P_storable : (P (F := F) m).IsStorable where
  st q d c := match q with | 0 => lent_storable m d _ _ _
  dn q d c := match q with | 0 => lent_storable m d _ _ _
  go q d c i := match q with | 0 => lent_storable m d _ _ _
  td q d c i := match q with | 0 => lent_storable m d _ _ _

/-! ## The tiles' obligation -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs: the kernel's body at its coordinates. -/
theorem defs₀_vector (c : Fin τ.nSC) (s : Fin τ.nSub) :
    defs₀ (F := F) (.scVector c s) 0 ()
      = SparseCore.onTile hcore0 hsub0 (fun c s => cc0__emb_body (F := F) (coordsV c s) iV (Memref.isWhole_whole _) xV (Memref.isWhole_whole _)
          oV (Memref.isWhole_whole _) sV (Memref.isWhole_whole _) rV (Memref.isWhole_whole _) cc0_scratch2 cc0_scratch3 cc0_scratch4 cc0_scratch5
          cc0_scratch6 cc0_scratch7 cc0_scratch8 cc0_scratch9 cc0_scratch10 cc0_scratch11 cc0_scratch12 cc0_scratch13 cc0_scratch14 cc0_scratch15
          cc0_scratch16 cc0_scratch17 cc0_scratch18 cc0_scratch19 cc0_scratch20 cc0_scratch21 cc0_scoped0) ⟨⟩ c s := rfl

/-- A tile's post-state as the launch asks for it. -/
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (idsB m d) (tabB m d) (idsB_lt m d hpre) (shareT (coreOf (F := F) c) (tileOf (F := F) i))
    (m (hb d main_v2)) O W hO).trans (wp_mono frame _ _ fun _ => obl_post)

/-- One resource for each of the call's tiles is one for each of sixteen. -/
theorem bigSep_tasks (Φ : Fin 16 → sProp 𝕄) :
    (bigSep Finset.univ fun i : Fin ((K (F := F)).nSub 0) => Φ (tileOf (F := F) i)) = bigSep Finset.univ Φ :=
  bigSep_congr fun _ _ => congrArg Φ (Fin.ext rfl)
/-- One resource for each of the call's SparseCores is one for each of two. -/
theorem bigSep_cores (Φ : Fin 2 → sProp 𝕄) :
    (bigSep Finset.univ fun c : Fin ((K (F := F)).nCore 0) => Φ (coreOf (F := F) c)) = bigSep Finset.univ Φ :=
  bigSep_congr fun _ _ => congrArg Φ (Fin.ext rfl)

/-- A core's share goes to its tiles and comes back. -/
theorem vecSplit : (K (F := F)).VecSplit' (P m) 0 := by
  intro d c
  have e (f : S50x4096x128.Idx → Elt F .f32) := (lent_tiles m d (coreOf (F := F) c) f).trans (bigSep_tasks (F := F) fun i : Fin 16 =>
    lent m d (shareT (coreOf (F := F) c) i) (cols (2 * i.val + (coreOf (F := F) c).val)) f).symm
  show lent m d (shareC (coreOf (F := F) c)) (ccols (coreOf (F := F) c)) (m (hb d main_v2)) ⊢ |={Set.univ}=> iprop(
      (bigSep Finset.univ fun i : Fin ((K (F := F)).nSub 0) =>
        lent m d (shareT (coreOf (F := F) c) (tileOf (F := F) i)) (cols (2 * (tileOf (F := F) i).val + (coreOf (F := F) c).val)) (m (hb d main_v2)))
      ∗ ((bigSep Finset.univ fun i : Fin ((K (F := F)).nSub 0) =>
          lent m d (shareT (coreOf (F := F) c) (tileOf (F := F) i)) (cols (2 * (tileOf (F := F) i).val + (coreOf (F := F) c).val)) (outB m d))
          -∗ lent m d (shareC (coreOf (F := F) c)) (ccols (coreOf (F := F) c)) (outB m d)))
  rw [e, e]
  iintro H; imodintro
  isplitl [H]; · iexact H
  iintro H; iexact H

/-! ## The launch's ghost state -/

/-- The ghost state at the start. -/
def u₀ : UU := (initOf (K (F := F)).hsCells (K (F := F)).hsToks, 1)

/-- Nothing, many times over, is nothing. -/
theorem bigSep_nothing {I : Type} (s : Finset I) : (bigSep s fun _ => iprop(emp)) = (iprop(emp) : sProp 𝕄) := bigSep_emp_const s

/-- The starting ghost state gives the handshakes' cells and tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The host's program -/

/-- A host buffer of the device. -/
abbrev dr (b : Ref sig .tc) : DevRef τ sig := Proc.devRef .tc b

/-- A host operation that reads one array and writes another. -/
theorem wp_move (Vz : Valuation τ sig (Elt F)) (d : Dev nD) (op : HloOp τ sig (Elt F)) (x y : Ref sig .tc) (hbufs : op.bufs = {dr x, dr y}) (hw : op.writes = {dr y}) (hne : dr x ≠ dr y)
    (hf : op.fresh = ∅) (fx : Buf (Elt F) (hb d x)) (fy out : Buf (Elt F) (hb d y))
    (hout : ∀ V : Valuation τ sig (Elt F), V (dr x) = fx → op.result V (dr y) = out)
    (p : Prog (TpuEff nD τ sig (Elt F) (SparseCore.Sig (ΛP (F := F)) 1) .tc) PUnit) (Q : PUnit → sProp 𝕄) :
    iprop(boundary (SparseCore.T d) ∗ (hb d x ↦{fullShare} fx) ∗ (hb d y ↦{fullShare} fy))
      ⊢ iprop((iprop(boundary (SparseCore.T d) ∗ (hb d x ↦{fullShare} fx) ∗ (hb d y ↦{fullShare} out))
            -∗ wp frame (wpE ((K (F := F)).defs (D (F := F))) 𝒱 (SparseCore.T d) none) Set.univ p Q)
          -∗ wp frame (wpE ((K (F := F)).defs (D (F := F))) 𝒱 (SparseCore.T d) none) Set.univ (hlo rfl op fun _ => p) Q) := by
  let Va : Valuation τ sig (Elt F) := Function.update (Function.update Vz (dr x) fx) (dr y) fy
  have ex : Va (dr x) = fx := (Function.update_of_ne hne _ _).trans (Function.update_self _ _ _)
  have ey : Va (dr y) = fy := Function.update_self _ _ _
  have two (W : Valuation τ sig (Elt F)) : (bigSep op.bufs (fun b => (d, b) ↦{fullShare} W b) : sProp 𝕄)
      = iprop((hb d x ↦{fullShare} W (dr x)) ∗ (hb d y ↦{fullShare} W (dr y))) := by
    rw [hbufs, SparseCore.bigSep_insert' (by simpa using hne), bigSep_singleton]
  have e1 := two Va
  have e2 := two (op.result Va)
  rw [ex, ey] at e1
  rw [op.result_of_not_mem Va (by rw [hw]; simpa using hne), ex, hout Va ex] at e2
  iintro ⟨Hb, Hxy⟩ Hk
  iapply (wp_hlo 𝒱 (SparseCore.T d) none Set.univ (op := op) (q := fun _ => fullShare) (F := Va) (fun _ _ => rfl) hf) $$ [Hb Hxy]
  · isplitl [Hb]; · iexact Hb
    iapply (Entails.of_eq e1.symm); iexact Hxy
  iintro ⟨Hb, H⟩
  ihave H := (Entails.of_eq e2) $$ H
  iapply Hk
  isplitl [Hb] <;> iassumption

/-- The host's six arrays. -/
theorem unscopedBufs_eq (d : Dev nD) (W : (b : Ref sig .tc) → Buf (Elt F) ((d.tc : Thread nD τ).loc b)) :
    (unscopedBufs d W : sProp 𝕄) = iprop((hb d main_arg0 ↦{fullShare} W main_arg0) ∗ (hb d main_arg1 ↦{fullShare} W main_arg1)
      ∗ (hb d main_v0 ↦{fullShare} W main_v0) ∗ (hb d main_v1 ↦{fullShare} W main_v1) ∗ (hb d main_v2 ↦{fullShare} W main_v2)
      ∗ (hb d main_v3 ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the SparseCores take together is what the call is lent. -/
theorem st0_eq (d : Dev nD) : (bigSep Finset.univ fun c : Fin ((K (F := F)).nCore 0) => (P m).st 0 d c) = lent m d fullShare Finset.univ (m (hb d main_v2)) := by
  rw [lent_cores]
  exact bigSep_cores fun c => lent m d (shareC c) (ccols c) (m (hb d main_v2))
/-- What the SparseCores give back together is the same, with the output written. -/
theorem dn0_eq (d : Dev nD) : (bigSep Finset.univ fun c : Fin ((K (F := F)).nCore 0) => (P m).dn 0 d c) = lent m d fullShare Finset.univ (outB m d) := by
  rw [lent_cores]
  exact bigSep_cores fun c => lent m d (shareC c) (ccols c) (outB m d)

/-- What the program leaves: the arguments as they were, and the result. -/
abbrev FIN (d : Dev nD) : sProp 𝕄 :=
  iprop((hb d main_arg0 ↦{fullShare} m (hb d main_arg0)) ∗ (hb d main_arg1 ↦{fullShare} m (hb d main_arg1)) ∗ (hb d main_v3 ↦{fullShare} resB m d))

/-- The host's program: two operations, the call, one operation. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, Hv0, Hv1, Hv2, Hv3⟩, Hts, -⟩, -⟩
  iapply (wp_move (fun b => m (d, b)) d _ main_arg0 main_v0 rfl rfl (by decide) rfl (m (hb d main_arg0)) _ (idsA m d)
    fun V hV => (StableHlo.reshape_result' _ _ _ _ V).trans (by rw [hV]; rfl)) $$ [Hb H0 Hv0]
  · isplitl [Hb]; · iexact Hb
    isplitl [H0] <;> iassumption
  iintro ⟨Hb, H0, Hv0⟩
  rw [wp_ret]; imodintro
  iapply (wp_move (fun b => m (d, b)) d _ main_v0 main_v1 rfl rfl (by decide) rfl (idsA m d) _ (idsB m d)
    fun V hV => (StableHlo.unary_result' _ _ _ V).trans (by rw [hV]; rfl)) $$ [Hb Hv0 Hv1]
  · isplitl [Hb]; · iexact Hb
    isplitl [Hv0] <;> iassumption
  iintro ⟨Hb, Hv0, Hv1⟩
  rw [wp_ret]; imodintro
  iapply ((K (F := F)).wp_run (D (F := F)) 𝒱 (EH := EH) (P := P m) κ d 0) $$ [Hst H0 H1 Hv1 Hv2 Hv3 Hb Hts]
  isplitr; · iexact Hctx
  isplitl [Hst]; · iexact Hst
  isplitl [H1 Hv1 Hv2]
  · rw [st0_eq]
    isplitl [Hv1]; · iexact Hv1
    isplitl [H1] <;> iassumption
  iintro ⟨Hst, Hdn⟩
  ihave Hdn' := (Entails.of_eq (dn0_eq m d)) $$ Hdn
  icases Hdn' with ⟨-, H1, Hv2⟩
  iapply (wp_move (fun b => m (d, b)) d _ main_v2 main_v3 rfl rfl (by decide) rfl (outB m d) _ (resB m d)
    fun V hV => (StableHlo.unary_result' _ _ _ V).trans (by rw [hV]; rfl)) $$ [Hb Hv2 Hv3]
  · isplitl [Hb]; · iexact Hb
    isplitl [Hv2] <;> iassumption
  iintro ⟨Hb, -, Hv3⟩
  rw [wp_ret]; imodintro; imodintro
  isplitl [Hst]; · iexact Hst
  isplitr [Hb Hts]
  · isplitl [H0]; · iexact H0
    isplitl [H1] <;> iassumption
  isplitl [Hb] <;> iassumption

/-! ## The run -/

/-- What a final state holds on device `d`. -/
def fq (d : Dev nD) (s' : Phys nD τ sig (Elt F)) : Prop :=
  s'.mem.mem (hb d main_v3) = resB m d ∧ s'.mem.mem (hb d main_arg0) = m (hb d main_arg0) ∧ s'.mem.mem (hb d main_arg1) = m (hb d main_arg1)

/-- A whole array held is what the state holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  · iexact HSI

/-- What @main ends with says what memory ends with. -/
theorem hfin (d : Dev nD) (s' : Phys nD τ sig (Elt F)) : iprop(FIN m d ∗ SI s') ⊢ (⌜fq m d s'⌝ : sProp 𝕄) := by
  iintro ⟨⟨H0, H1, H3⟩, HSI⟩
  ihave H := (agree s' _ _) $$ [H0 HSI]
  · isplitl [H0] <;> iassumption
  icases H with ⟨%h0, HSI⟩
  ihave H := (agree s' _ _) $$ [H1 HSI]
  · isplitl [H1] <;> iassumption
  icases H with ⟨%h1, HSI⟩
  ihave H := (agree s' _ _) $$ [H3 HSI]
  · isplitl [H3] <;> iassumption
  icases H with ⟨%h3, HSI⟩
  ipureintro; exact ⟨h3, h0, h1⟩

/-- The final states: the result at its value, the arguments as they were, every semaphore at zero. -/
def QC : PUnit × MemSt nD τ sig (Elt F) → Prop := fun r =>
  (∀ d : Dev nD, r.2.mem (hb d main_v3) = resB m d ∧ r.2.mem (hb d main_arg0) = m (hb d main_arg0) ∧ r.2.mem (hb d main_arg1) = m (hb d main_arg1))
    ∧ r.2.sem = fun _ => 0

/-- The run of the program, from any memory whose identifiers name rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.Emb

end
-- ==== Proof.Lookup.lean ====
/-
  The result as one plain table lookup: what the precondition says of the identifiers, and what the
  kernel's host operations make of its output.
-/
module

public import proofs.«01_k».proof.Proof.Launch
public import proofs.«01_k».proof.Proof.Gen.Pre_ids_in_range
public import Idealize.ShloMosaic.Lib.ReduceAll
public import Idealize.ShloMosaic.Lib.Pipeline.Value

@[expose] public section

noncomputable section

namespace Cert.Proof.Emb

open Cert.KernelIdeal Cert.KernelIdeal.Gen

open Idealize.ShloMosaic Idealize.ShloMosaic.ValueIdx Idealize.SL.Sem

variable {F : FTy → Type}

/-- The plain lookup: element `e` of position `l` of sentence `s` is element `e` of the table's row that the identifier
    at `(s, l)` names. -/
def lookup (ids : S4096x50.Idx → BitVec 32) (tab : S100000x128.Idx → Elt F .f32) : S4096x50x128.Idx → Elt F .f32 :=
  fun y => tab (ix2 (rowNo (ids (ix2 (y 0) (y 1)))) (y 2))

/-! ## Words in range -/

/-- A word that is at least zero and below `100000`, read signed, is below `100000` read unsigned. -/
theorem word_lt {w : BitVec 32} (h0 : IntOp.cmpi .sge w 0#32 = 1#1) (h1 : IntOp.cmpi .slt w 100000#32 = 1#1) : w.toNat < 100000 := by
  rw [IntOp.cmpi_sge] at h0
  rw [IntOp.cmpi_slt] at h1
  have hw := w.isLt
  have e0 : (0#32 : BitVec 32).toInt = 0 := by decide
  have e1 : (100000#32 : BitVec 32).toInt = 100000 := by decide
  rw [e0] at h0; rw [e1] at h1
  rw [BitVec.toInt_eq_toNat_cond] at h0 h1
  split at h0 <;> split at h1 <;> omega

/-- A word below `100000` reads the same signed. -/
theorem word_toInt {w : BitVec 32} (h : w.toNat < 100000) : w.toInt = (w.toNat : Int) := by
  rw [BitVec.toInt_eq_toNat_cond, if_pos (by omega)]

/-- Such a word is not negative … -/
theorem word_nonneg {w : BitVec 32} (h : w.toNat < 100000) : IntOp.cmpi .slt w 0#32 ≠ 1#1 := by
  rw [Ne, IntOp.cmpi_slt, word_toInt h, show (0#32 : BitVec 32).toInt = 0 by decide]; omega

/-- … and lies within the bounds the reference tests. -/
theorem word_within {w : BitVec 32} (h : w.toNat < 100000) : IntOp.andi (IntOp.cmpi .sge w 0#32) (IntOp.cmpi .sle w 99999#32) = 1#1 := by
  have a : IntOp.cmpi .sge w 0#32 = 1#1 := by
    rw [IntOp.cmpi_sge, word_toInt h, show (0#32 : BitVec 32).toInt = 0 by decide]; omega
  have b : IntOp.cmpi .sle w 99999#32 = 1#1 := by
    rw [IntOp.cmpi_sle, word_toInt h, show (99999#32 : BitVec 32).toInt = 99999 by decide]; omega
  rw [a, b]; rfl

instance : Subsingleton Cert.Pre_ids_in_range.S_.Idx := ⟨fun _ _ => funext fun a => a.elim0⟩

/-- The precondition says that every identifier is a row number of the table. -/
theorem ids_lt [FloatOps F] (ids : S4096x50.Idx → BitVec 32) (tab : S100000x128.Idx → F .f32)
    (h : @Cert.Pre_ids_in_range.fn Cert.Pre_ids_in_range.Gen.facts F _ ids tab = fun _ => 1#1) (j : S4096x50.Idx) : (ids j).toNat < 100000 := by
  have e := IntOp.andi_eq_one.1 (Host.reduce_andi_all _ _ _ _ (Shape.Idx.first Cert.Pre_ids_in_range.Gen.facts.h_S_) (congrFun h _) j)
  exact word_lt e.1 e.2

/-! ## The kernel's result -/

/-- The identifiers split by sentence into `32` blocks of `128`: block and place in it are the sentence's quotient and
    remainder. -/
theorem split_sentence {α : Type} (x : S4096x50.Idx → α) (s : Fin 4096) (l : Fin 50) (h : S4096x50.ShapeCasts S32x128x50) :
    shapeCast S32x128x50 x h (ix3 ⟨s.val / 128, by omega⟩ ⟨s.val % 128, Nat.mod_lt _ (by omega)⟩ l) = x (ix2 s l) :=
  shapeCast_apply x h _ _ (by
    rw [Shape.rowMajor_val_two, Shape.rowMajor_val_three]
    show s.val * 50 + l.val = (s.val / 128 * 128 + s.val % 128) * 50 + l.val
    omega)

/-- The kernel's result, after the host's reordering of the output's axes, is the lookup. -/
theorem resB_eq (m : (ℓ : Loc nD τ sig) → Buf (Elt F) ℓ) (d : Dev nD) : resB m d = lookup (m (hb d main_arg0)) (m (hb d main_arg1)) := by
  funext y
  have hy0 : (y 0).val < 4096 := (y 0).isLt
  have hy1 : (y 1).val < 50 := (y 1).isLt
  unfold resB
  rw [transpose_apply [1, 0, 2] (outB m d) transposes_S50x4096x128_S4096x50x128_1_0_2 y (ix3 (y 1) (y 0) (y 2))
    (fun b => match b with | 0 => rfl | 1 => rfl | 2 => rfl)]
  unfold outB tgtF lookup idsB
  rw [transpose_apply [0, 2, 1] (idsA m d) transposes_S32x128x50_S32x50x128_0_2_1 _
    (ix3 ⟨(y 0).val / 128, by omega⟩ ⟨(y 0).val % 128, Nat.mod_lt _ (by omega)⟩ (y 1))
    (fun b => match b with | 0 => rfl | 1 => rfl | 2 => rfl)]
  unfold idsA
  exact congrArg (fun w => m (hb d main_arg1) (ix2 (rowNo w) (y 2))) (split_sentence (m (hb d main_arg0)) (y 0) (y 1) _)

end Cert.Proof.Emb

end
-- ==== Proof.Reference.lean ====
/-
  The reference's composed term, element by element: with every identifier a row number, it is the plain lookup.
-/
module

public import proofs.«01_k».proof.Proof.Lookup
public import proofs.«01_k».proof.Proof.Gen.ReferenceIdeal.Run

@[expose] public section

noncomputable section

namespace Cert.Proof.Ref

open Cert.ReferenceIdeal Cert.ReferenceIdeal.Gen

open Idealize.ShloMosaic Idealize.ShloMosaic.ValueIdx Idealize.SL.Sem
open Cert.Proof.Emb (lookup rowNo word_nonneg word_within word_toInt)

variable {F : FTy → Type} [FloatOps F]

/-- The reference's row numbers: a negative identifier counts from the table's end. -/
abbrev wrap (ids : IVec S4096x50 32) : IVec S4096x50 32 :=
  select (cmpi .slt ids (broadcastInDim S4096x50 ![] bcast_S_S4096x50 (constantI S_ 32 0#32)))
    (addi ids (broadcastInDim S4096x50 ![] bcast_S_S4096x50 (constantI S_ 32 100000#32))) ids

/-- Row numbers as a column of start indices. -/
abbrev column (ids : IVec S4096x50 32) : IVec S4096x50x1 32 := broadcastInDim S4096x50x1 ![0, 1] bcast_S4096x50_S4096x50x1_0_1 ids

/-- Which of the start indices name a row. -/
abbrev inside (E : IVec S4096x50x1 32) : IVec S4096x50 1 :=
  Host.reduce IntOp.andi (andi (cmpi .sge E (broadcastInDim S4096x50x1 ![] bcast_S_S4096x50x1 (constantI S_ 32 0#32)))
    (cmpi .sle E (broadcastInDim S4096x50x1 ![0, 1, 2] bcast_S1x1x1_S4096x50x1_0_1_2
      (broadcastInDim S1x1x1 ![2] bcast_S1_S1x1x1_2 (constantI S1 32 99999#32)))))
    (constantI S_ 1 1#1) reducesTo_S4096x50x1_S4096x50_d2 h_S_

/-- The reference's composed term: the gathered rows where the index names a row, a filler elsewhere. -/
abbrev term (ids : IVec S4096x50 32) (tab : FVec F S100000x128 .f32) : FVec F S4096x50x128 .f32 :=
  select (broadcastInDim S4096x50x128 ![0, 1] bcast_S4096x50_S4096x50x128_0_1 (inside (column (wrap ids))))
    (Host.gather gather_S100000x128_S4096x50x1_S4096x50x128_2_0_n_n_0_2_1128 tab (column (wrap ids)))
    (broadcastInDim S4096x50x128 ![] bcast_S_S4096x50x128 (constant S_ .f32 0x7FC00000#32))

/-- No identifier in range is negative. -/
theorem wrap_eq {ids : IVec S4096x50 32} (h : ∀ j, (ids j).toNat < 100000) : wrap ids = ids :=
  funext fun j => if_neg (word_nonneg (h j))

/-- A column of in-range identifiers names rows everywhere. -/
theorem inside_eq {ids : IVec S4096x50 32} (h : ∀ j, (ids j).toNat < 100000) (j : S4096x50.Idx) : inside (column ids) j = 1#1 :=
  Host.reduce_andi_one _ _ _ _ j rfl fun i => word_within (h _)

/-- The column at `(s, l, 0)` is the identifier at `(s, l)`. -/
theorem column_apply (ids : IVec S4096x50 32) (s : Fin 4096) (l : Fin 50) : column ids (ix3 s l (0 : Fin 1)) = ids (ix2 s l) :=
  broadcastInDim_apply ![0, 1] bcast_S4096x50_S4096x50x1_0_1 ids _ _ (fun a => match a with | 0 => rfl | 1 => rfl)

/-- The gather's start indices move along the table's rows … -/
theorem row_mapped : (0 : Fin S100000x128.rank) ∈ gather_S100000x128_S4096x50x1_S4096x50x128_2_0_n_n_0_2_1128.startIndexMap :=
  List.mem_singleton.2 rfl

/-- … and not along a row. -/
theorem lane_unmapped : (1 : Fin S100000x128.rank) ∉ gather_S100000x128_S4096x50x1_S4096x50x128_2_0_n_n_0_2_1128.startIndexMap :=
  fun h => absurd (congrArg Fin.val (List.mem_singleton.1 h)) Nat.one_ne_zero

/-- A choice whose bit is one is the first array's element. -/
theorem select_first {s : Shape} {α : Type} (c : IVec s 1) (a b : s.Idx → α) (y : s.Idx) (h : c y = 1#1) : select c a b y = a y :=
  if_pos h

/-- Bits that are all one stay so when they are broadcast. -/
theorem broadcast_ones {s t : Shape} (dims : Fin s.rank → Fin t.rank) (hb : s.BroadcastsInDim t dims) (c : IVec s 1) (h : ∀ j, c j = 1#1)
    (y : t.Idx) : broadcastInDim t dims hb c y = 1#1 := h _

/-- The gather at `(s, l, e)`: element `e` of the row that the start index at `(s, l)` names, the index clamped to the
    table. -/
theorem gather_apply {α : Type} (tab : S100000x128.Idx → α) (E : IVec S4096x50x1 32) (s : Fin 4096) (l : Fin 50) (e : Fin 128) :
    Host.gather gather_S100000x128_S4096x50x1_S4096x50x128_2_0_n_n_0_2_1128 tab E (ix3 s l e)
      = tab (ix2 ⟨min (E (ix3 s l (0 : Fin 1))).toInt.toNat 99999, by omega⟩ e) := by
  refine congrArg tab (funext fun a => Fin.ext ?_)
  match a with
  | 0 =>
    show GatherDims.start _ _ E 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).1 h).1 (List.mem_singleton.2 rfl)), GatherDims.start,
      dif_pos row_mapped]
    refine congrArg (fun i => min (E i).toInt.toNat 99999) (funext fun b => Fin.ext ?_)
    match b with
    | 0 => rfl
    | 1 => rfl
    | 2 => rfl
  | 1 =>
    show GatherDims.start _ _ E 1 + GatherDims.batchCoord _ _ 1 + GatherDims.offCoord _ _ 1 = _
    rw [GatherDims.batchCoord_eq_zero _ _ _ List.not_mem_nil, GatherDims.start,
      dif_neg lane_unmapped, Nat.zero_add]
    rfl

/-- With every identifier a row number, the reference's term is the lookup. -/
theorem term_eq {ids : IVec S4096x50 32} (h : ∀ j, (ids j).toNat < 100000) (tab : FVec F S100000x128 .f32) :
    term ids tab = lookup ids tab := by
  funext y
  unfold term
  rw [wrap_eq h]
  refine (select_first _ _ _ y (broadcast_ones _ _ _ (inside_eq h) y)).trans ?_
  have hy : y = ix3 (y 0) (y 1) (y 2) := funext fun a => match a with | 0 => rfl | 1 => rfl | 2 => rfl
  have hw := h (ix2 (y 0) (y 1))
  refine (congrArg _ hy).trans ((gather_apply tab (column ids) (y 0) (y 1) (y 2)).trans ?_)
  refine congrArg (fun r => tab (ix2 r (y 2))) (Fin.ext ?_)
  show min (column ids (ix3 (y 0) (y 1) (0 : Fin 1))).toInt.toNat 99999 = (ids (ix2 (y 0) (y 1))).toNat % 100000
  rw [column_apply ids (y 0) (y 1), word_toInt hw, Int.toNat_natCast]
  omega

end Cert.Proof.Ref

end
-- ==== Proof.lean ====
/- The certificate's claim, assembled: the kernel's run (Proof/Launch.lean) read at its arguments and its result, the
   reference's run, and the equality of the two results (Proof/Lookup.lean, Proof/Reference.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_range
public import proofs.«01_k».proof.Proof.Launch
public import proofs.«01_k».proof.Proof.Lookup
public import proofs.«01_k».proof.Proof.Reference
public import Idealize.ShloMosaic.Adequacy
public import Idealize.ShloMosaic.Init

@[expose] public section

noncomputable section

namespace Cert.Proof

open Idealize.ShloMosaic Idealize.SL.Sem

/-- The kernel as printed runs, leaves its arguments unchanged and every semaphore counter at zero. -/
theorem frame_kernel : Cert.quiescent_Kernel := fun m ρ h =>
  (θ_run Cert.KernelIdeal.defs _ _).mono (fun _ r => ⟨fun c => (r.1 c).2, r.2⟩) (Emb.run_main (F := Bits) m ρ fun c => Emb.ids_lt _ _ (h c))

/-- The kernel over the reals likewise. -/
theorem frame_ideal : Cert.quiescent_KernelIdeal := fun m ρ h =>
  (θ_run Cert.KernelIdeal.defs _ _).mono (fun _ r => ⟨fun c => (r.1 c).2, r.2⟩) (Emb.run_main (F := Ideal) m ρ fun c => Emb.ids_lt _ _ (h c))

/-- The reference runs and leaves its arguments unchanged; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the kernel's precondition. -/
theorem frame_ref_pre : Cert.quiescent_ReferenceIdeal_pre_ids_in_range := fun m ρ _ => frame_ref m ρ trivial

/-- Kernel and reference end with equal results: the lookup of the identifiers' rows. -/
theorem algebraic : Cert.algebraic_KernelIdeal_ReferenceIdeal := by
  intro m ρ m' ρ' h agree
  refine ⟨fun c => Emb.lookup (m (Emb.hb c Cert.KernelIdeal.main_arg0)) (m (Emb.hb c Cert.KernelIdeal.main_arg1)),
    (θ_run Cert.KernelIdeal.defs _ _).mono (fun _ r c => ⟨(r.1 c).1.trans (Emb.resB_eq m c), (r.1 c).2⟩)
      (Emb.run_main (F := Ideal) m ρ fun c => Emb.ids_lt _ _ (h c)),
    (θ_run Cert.ReferenceIdeal.defs _ _).mono (fun _ r c => ⟨(r c).1.trans ?_, (r c).2⟩) (Cert.ReferenceIdeal.Value.run (F := Ideal) m' ρ')⟩
  rw [(agree c).1, (agree c).2]
  exact Ref.term_eq (F := Ideal) (Emb.ids_lt _ _ (h c)) _

/-- The certificate's claim. -/
theorem claim : Cert.Claim :=
  ⟨Cert.Kernel.Gen.facts, Cert.KernelIdeal.Gen.facts, Cert.ReferenceIdeal.Gen.facts, Cert.Pre_ids_in_range.Gen.facts,
    frame_kernel, frame_ideal, frame_ref, frame_ref_pre, trivial, algebraic⟩

end Cert.Proof

end
